-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S1024x16 : Shape := ⟨2, ![1024, 16]⟩
abbrev S2048x2048 : Shape := ⟨2, ![2048, 2048]⟩
abbrev S4x1x2048x8 : Shape := ⟨4, ![4, 1, 2048, 8]⟩
abbrev S4x1x16 : Shape := ⟨3, ![4, 1, 16]⟩
abbrev S4x1x1 : Shape := ⟨3, ![4, 1, 1]⟩
abbrev S4x2048x2560 : Shape := ⟨3, ![4, 2048, 2560]⟩
abbrev S4x2048x16x160 : Shape := ⟨4, ![4, 2048, 16, 160]⟩
abbrev S_ : Shape := ⟨0, ![]⟩
abbrev S1x2048x1024 : Shape := ⟨3, ![1, 2048, 1024]⟩
abbrev S1x1x2048x8 : Shape := ⟨4, ![1, 1, 2048, 8]⟩
abbrev S1x1x16 : Shape := ⟨3, ![1, 1, 16]⟩
abbrev S1x1x1 : Shape := ⟨3, ![1, 1, 1]⟩
abbrev S2048x1024 : Shape := ⟨2, ![2048, 1024]⟩
abbrev S2048x16 : Shape := ⟨2, ![2048, 16]⟩
abbrev S2048 : Shape := ⟨1, ![2048]⟩
abbrev S2048x1 : Shape := ⟨2, ![2048, 1]⟩
abbrev S2048x2 : Shape := ⟨2, ![2048, 2]⟩
abbrev S2048x8 : Shape := ⟨2, ![2048, 8]⟩
abbrev S16 : Shape := ⟨1, ![16]⟩
abbrev S1x16 : Shape := ⟨2, ![1, 16]⟩
abbrev S1 : Shape := ⟨1, ![1]⟩
abbrev S1x1x512x8 : Shape := ⟨4, ![1, 1, 512, 8]⟩
abbrev S1x512x2560 : Shape := ⟨3, ![1, 512, 2560]⟩
abbrev S512x8 : Shape := ⟨2, ![512, 8]⟩
abbrev S512x1 : Shape := ⟨2, ![512, 1]⟩
abbrev S512x16 : Shape := ⟨2, ![512, 16]⟩
abbrev S512 : Shape := ⟨1, ![512]⟩
abbrev S512x2560 : Shape := ⟨2, ![512, 2560]⟩

abbrev nBuf : Space → Nat
  | .hbm => 15
  | .vmem => 16
  | .smem => 2
  | _ => 0

abbrev bufTy : (tb : Table) → Fin (tcTables nBuf tb) → BufTy
  | .hbm, ⟨0, _⟩ => ⟨S4x2048x1024, .f32⟩
  | .hbm, ⟨1, _⟩ => ⟨S1024x16, .f32⟩
  | .hbm, ⟨2, _⟩ => ⟨S2048x2048, .i32⟩
  | .hbm, ⟨3, _⟩ => ⟨S2048x2048, .i32⟩
  | .hbm, ⟨4, _⟩ => ⟨S2048x2048, .i1⟩
  | .hbm, ⟨5, _⟩ => ⟨S2048x2048, .bf16⟩
  | .hbm, ⟨6, _⟩ => ⟨S4x1x2048x8, .f32⟩
  | .hbm, ⟨7, _⟩ => ⟨S4x1x16, .f32⟩
  | .hbm, ⟨8, _⟩ => ⟨S4x1x1, .f32⟩
  | .hbm, ⟨9, _⟩ => ⟨S4x2048x2560, .f32⟩
  | .hbm, ⟨10, _⟩ => ⟨S4x2048x2560, .f32⟩
  | .hbm, ⟨11, _⟩ => ⟨S4x2048x16x160, .f32⟩
  | .hbm, ⟨12, _⟩ => ⟨S4x2048x16x160, .f32⟩
  | .hbm, ⟨13, _⟩ => ⟨S_, .f32⟩
  | .hbm, ⟨14, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x16, .f32⟩
  | .local _ .vmem, ⟨3, _⟩ => ⟨S2048x2048, .bf16⟩
  | .local _ .vmem, ⟨4, _⟩ => ⟨S1x1x2048x8, .f32⟩
  | .local _ .vmem, ⟨5, _⟩ => ⟨S1x1x2048x8, .f32⟩
  | .local _ .vmem, ⟨6, _⟩ => ⟨S1x1x16, .f32⟩
  | .local _ .vmem, ⟨7, _⟩ => ⟨S1x1x16, .f32⟩
  | .local _ .vmem, ⟨8, _⟩ => ⟨S1x1x512x8, .f32⟩
  | .local _ .vmem, ⟨9, _⟩ => ⟨S1x1x512x8, .f32⟩
  | .local _ .vmem, ⟨10, _⟩ => ⟨S1x1x16, .f32⟩
  | .local _ .vmem, ⟨11, _⟩ => ⟨S1x1x16, .f32⟩
  | .local _ .vmem, ⟨12, _⟩ => ⟨S1x512x2560, .f32⟩
  | .local _ .vmem, ⟨13, _⟩ => ⟨S1x512x2560, .f32⟩
  | .local _ .vmem, ⟨14, _⟩ => ⟨S1x512x2560, .f32⟩
  | .local _ .vmem, ⟨15, _⟩ => ⟨S1x512x2560, .f32⟩
  | .local _ .smem, ⟨0, _⟩ => ⟨S1x1x1, .f32⟩
  | .local _ .smem, ⟨1, _⟩ => ⟨S1x1x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4_0 : Ref sig .tc := ⟨.hbm, 6, rfl⟩
abbrev main_call0_v4_1 : Ref sig .tc := ⟨.hbm, 7, rfl⟩
abbrev main_call0_v4_2 : Ref sig .tc := ⟨.hbm, 8, rfl⟩
abbrev main_call0_v5_0 : Ref sig .tc := ⟨.hbm, 9, rfl⟩
abbrev main_call0_v5_1 : Ref sig .tc := ⟨.hbm, 10, rfl⟩
abbrev main_v0_1 : Ref sig .tc := ⟨.hbm, 11, rfl⟩
abbrev main_v0_0 : Ref sig .tc := ⟨.hbm, 12, rfl⟩
abbrev main_call0_cst : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_stg5_0 : Ref sig .tc := ⟨.smem, 0, rfl⟩
abbrev cc0_stg5_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x512x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x2048x1024 : Shape := ⟨3, ![4, 2048, 1024]⟩
abbrev S1024x16 : Shape := ⟨2, ![1024, 16]⟩
abbrev S4x2048x16 : Shape := ⟨3, ![4, 2048, 16]⟩
abbrev S_ : Shape := ⟨0, ![]⟩
abbrev S4x2048 : Shape := ⟨2, ![4, 2048]⟩
abbrev S4x2048x1 : Shape := ⟨3, ![4, 2048, 1]⟩
abbrev S1x1x16 : Shape := ⟨3, ![1, 1, 16]⟩
abbrev S4x16 : Shape := ⟨2, ![4, 16]⟩
abbrev S4x1x16 : Shape := ⟨3, ![4, 1, 16]⟩
abbrev S4x2048x1x1 : Shape := ⟨4, ![4, 2048, 1, 1]⟩
abbrev S4x2048x16x1 : Shape := ⟨4, ![4, 2048, 16, 1]⟩
abbrev S1x1x160 : Shape := ⟨3, ![1, 1, 160]⟩
abbrev S4x2048x160 : Shape := ⟨3, ![4, 2048, 160]⟩
abbrev S4x2048x1x160 : Shape := ⟨4, ![4, 2048, 1, 160]⟩
abbrev S4x2048x16x160 : Shape := ⟨4, ![4, 2048, 16, 160]⟩

abbrev nBuf : Space → Nat
  | .hbm => 156
  | .vmem => 0
  | .smem => 0
  | _ => 0

abbrev hbmTy0_0 (i : Nat) : BufTy := match i % 128 with
  | 0 => ⟨S4x2048x1024, .f32⟩
  | 1 => ⟨S1024x16, .f32⟩
  | 2 => ⟨S4x2048x16, .f32⟩
  | 3 => ⟨S_, .f32⟩
  | 4 => ⟨S4x2048, .f32⟩
  | 5 => ⟨S_, .f32⟩
  | 6 => ⟨S4x2048, .f32⟩
  | 7 => ⟨S4x2048, .f32⟩
  | 8 => ⟨S4x2048x1, .f32⟩
  | 9 => ⟨S4x2048x16, .f32⟩
  | 10 => ⟨S4x2048x16, .f32⟩
  | 11 => ⟨S4x2048x16, .f32⟩
  | 12 => ⟨S_, .f32⟩
  | 13 => ⟨S4x2048, .f32⟩
  | 14 => ⟨S4x2048x1, .f32⟩
  | 15 => ⟨S4x2048x16, .f32⟩
  | 16 => ⟨S4x2048x16, .f32⟩
  | 17 => ⟨S4x2048x16, .i32⟩
  | 18 => ⟨S_, .f32⟩
  | 19 => ⟨S_, .i32⟩
  | 20 => ⟨S4x2048, .f32⟩
  | 21 => ⟨S4x2048, .i32⟩
  | 22 => ⟨S_, .f32⟩
  | 23 => ⟨S4x2048, .f32⟩
  | 24 => ⟨S4x2048x1, .i32⟩
  | 25 => ⟨S1x1x16, .i32⟩
  | 26 => ⟨S4x2048x16, .i32⟩
  | 27 => ⟨S4x2048x16, .i32⟩
  | 28 => ⟨S4x2048x16, .i1⟩
  | 29 => ⟨S4x2048x16, .f32⟩
  | 30 => ⟨S_, .f32⟩
  | 31 => ⟨S4x2048x16, .f32⟩
  | 32 => ⟨S4x2048x16, .f32⟩
  | 33 => ⟨S4x2048x16, .f32⟩
  | 34 => ⟨S4x2048x16, .i32⟩
  | 35 => ⟨S_, .f32⟩
  | 36 => ⟨S_, .i32⟩
  | 37 => ⟨S4x2048, .f32⟩
  | 38 => ⟨S4x2048, .i32⟩
  | 39 => ⟨S_, .f32⟩
  | 40 => ⟨S4x2048, .f32⟩
  | 41 => ⟨S4x2048x1, .i32⟩
  | 42 => ⟨S1x1x16, .i32⟩
  | 43 => ⟨S4x2048x16, .i32⟩
  | 44 => ⟨S4x2048x16, .i32⟩
  | 45 => ⟨S4x2048x16, .i1⟩
  | 46 => ⟨S4x2048x16, .f32⟩
  | 47 => ⟨S4x2048, .f32⟩
  | 48 => ⟨S_, .f32⟩
  | 49 => ⟨S4x2048, .f32⟩
  | 50 => ⟨S4x2048, .f32⟩
  | 51 => ⟨S4x2048, .f32⟩
  | 52 => ⟨S4x2048, .f32⟩
  | 53 => ⟨S_, .f32⟩
  | 54 => ⟨S4x16, .f32⟩
  | 55 => ⟨S_, .f32⟩
  | 56 => ⟨S4x16, .f32⟩
  | 57 => ⟨S4x16, .f32⟩
  | 58 => ⟨S_, .f32⟩
  | 59 => ⟨S4x16, .f32⟩
  | 60 => ⟨S_, .f32⟩
  | 61 => ⟨S4x16, .f32⟩
  | 62 => ⟨S4x16, .f32⟩
  | 63 => ⟨S4x16, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4x2048x16, .f32⟩
  | 73 => ⟨S4x2048x16, .f32⟩
  | 74 => ⟨S4x2048x16, .f32⟩
  | 75 => ⟨S_, .f32⟩
  | 76 => ⟨S4x2048x16, .f32⟩
  | 77 => ⟨S4x2048x16, .i1⟩
  | 78 => ⟨S4x2048x16, .f32⟩
  | 79 => ⟨S4x2048x16, .f32⟩
  | 80 => ⟨S_, .f32⟩
  | 81 => ⟨S4x16, .f32⟩
  | 82 => ⟨S4x1x16, .f32⟩
  | 83 => ⟨S_, .f32⟩
  | 84 => ⟨S4x2048, .f32⟩
  | 85 => ⟨S_, .f32⟩
  | 86 => ⟨S4x2048, .f32⟩
  | 87 => ⟨S4x2048, .f32⟩
  | 88 => ⟨S_, .f32⟩
  | 89 => ⟨S_, .f32⟩
  | 90 => ⟨S4x2048x16, .f32⟩
  | 91 => ⟨S4x2048x16, .f32⟩
  | 92 => ⟨S4x2048x16, .f32⟩
  | 93 => ⟨S4x2048x16, .f32⟩
  | 94 => ⟨S4x2048x16, .f32⟩
  | 95 => ⟨S_, .f32⟩
  | 96 => ⟨S4x2048x16, .f32⟩
  | 97 => ⟨S4x2048x16, .i1⟩
  | 98 => ⟨S4x2048x16, .f32⟩
  | 99 => ⟨S4x2048x16, .f32⟩
  | 100 => ⟨S_, .f32⟩
  | 101 => ⟨S4x2048, .f32⟩
  | 102 => ⟨S_, .f32⟩
  | 103 => ⟨S4x2048, .f32⟩
  | 104 => ⟨S4x2048, .f32⟩
  | 105 => ⟨S4x2048x1x1, .f32⟩
  | 106 => ⟨S4x2048x1x1, .f32⟩
  | 107 => ⟨S4x2048x1x1, .f32⟩
  | 108 => ⟨S4x2048x1, .i32⟩
  | 109 => ⟨S1x1x16, .i32⟩
  | 110 => ⟨S4x2048x16, .i32⟩
  | 111 => ⟨S4x2048x16, .i32⟩
  | 112 => ⟨S4x2048x16, .i1⟩
  | 113 => ⟨S4x2048x16, .f32⟩
  | 114 => ⟨S4x2048x16x1, .f32⟩
  | 115 => ⟨S4x2048x16x1, .f32⟩
  | 116 => ⟨S4x2048x16x1, .f32⟩
  | 117 => ⟨S4x2048, .i32⟩
  | 118 => ⟨S4x2048x1, .i32⟩
  | 119 => ⟨S1x1x160, .i32⟩
  | 120 => ⟨S4x2048x160, .i32⟩
  | 121 => ⟨S4x2048x160, .i32⟩
  | 122 => ⟨S4x2048x160, .i1⟩
  | 123 => ⟨S4x2048x160, .f32⟩
  | 124 => ⟨S4x2048x1x160, .f32⟩
  | 125 => ⟨S4x2048x16x160, .f32⟩
  | 126 => ⟨S4x2048x16x160, .f32⟩
  | 127 => ⟨S4x2048x16x160, .f32⟩
  | _ => ⟨S4x2048x1024, .f32⟩

abbrev hbmTy0_1 (i : Nat) : BufTy := match i % 128 with
  | 0 => ⟨S4x2048x1x1, .f32⟩
  | 1 => ⟨S4x2048x1x1, .f32⟩
  | 2 => ⟨S4x2048x1x1, .f32⟩
  | 3 => ⟨S4x2048x1, .i32⟩
  | 4 => ⟨S1x1x16, .i32⟩
  | 5 => ⟨S4x2048x16, .i32⟩
  | 6 => ⟨S4x2048x16, .i32⟩
  | 7 => ⟨S4x2048x16, .i1⟩
  | 8 => ⟨S4x2048x16, .f32⟩
  | 9 => ⟨S4x2048x16x1, .f32⟩
  | 10 => ⟨S4x2048x16x1, .f32⟩
  | 11 => ⟨S4x2048x16x1, .f32⟩
  | 12 => ⟨S4x2048, .i32⟩
  | 13 => ⟨S4x2048x1, .i32⟩
  | 14 => ⟨S1x1x160, .i32⟩
  | 15 => ⟨S4x2048x160, .i32⟩
  | 16 => ⟨S4x2048x160, .i32⟩
  | 17 => ⟨S4x2048x160, .i1⟩
  | 18 => ⟨S4x2048x160, .f32⟩
  | 19 => ⟨S4x2048x1x160, .f32⟩
  | 20 => ⟨S4x2048x16x160, .f32⟩
  | 21 => ⟨S4x2048x16x160, .f32⟩
  | 22 => ⟨S4x2048x16x160, .f32⟩
  | 23 => ⟨S4x2048x16x160, .f32⟩
  | 24 => ⟨S_, .f32⟩
  | 25 => ⟨S4x2048x16x160, .f32⟩
  | 26 => ⟨S4x2048x16x160, .i1⟩
  | 27 => ⟨S4x2048x16x160, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_v0 : Ref sig .tc := ⟨.hbm, 34, rfl⟩
abbrev main_call2_cst : Ref sig .tc := ⟨.hbm, 35, rfl⟩
abbrev main_call2_c : Ref sig .tc := ⟨.hbm, 36, rfl⟩
abbrev main_call2_v1_0 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_cst_7 : Ref sig .tc := ⟨.hbm, 55, rfl⟩
abbrev main_v27 : Ref sig .tc := ⟨.hbm, 56, rfl⟩
abbrev main_v28 : Ref sig .tc := ⟨.hbm, 57, rfl⟩
abbrev main_cst_8 : Ref sig .tc := ⟨.hbm, 58, rfl⟩
abbrev main_v29 : Ref sig .tc := ⟨.hbm, 59, rfl⟩
abbrev main_cst_9 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_v33 : Ref sig .tc := ⟨.hbm, 65, rfl⟩
abbrev main_cst_11 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_call4_call0_cst : Ref sig .tc := ⟨.hbm, 70, rfl⟩
abbrev main_call4_call0_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_13 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_14 : Ref sig .tc := ⟨.hbm, 80, rfl⟩
abbrev main_v43 : Ref sig .tc := ⟨.hbm, 81, rfl⟩
abbrev main_v44 : Ref sig .tc := ⟨.hbm, 82, rfl⟩
abbrev main_cst_15 : Ref sig .tc := ⟨.hbm, 83, rfl⟩
abbrev main_v45 : Ref sig .tc := ⟨.hbm, 84, rfl⟩
abbrev main_cst_16 : Ref sig .tc := ⟨.hbm, 85, rfl⟩
abbrev main_v46 : Ref sig .tc := ⟨.hbm, 86, rfl⟩
abbrev main_v47 : Ref sig .tc := ⟨.hbm, 87, rfl⟩
abbrev main_call5_call0_cst : Ref sig .tc := ⟨.hbm, 88, rfl⟩
abbrev main_call5_call0_v0 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_17 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_18 : Ref sig .tc := ⟨.hbm, 100, rfl⟩
abbrev main_v57 : Ref sig .tc := ⟨.hbm, 101, rfl⟩
abbrev main_cst_19 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call8_v0 : Ref sig .tc := ⟨.hbm, 131, rfl⟩
abbrev main_call8_v1 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_call9_v0 : Ref sig .tc := ⟨.hbm, 141, rfl⟩
abbrev main_call9_v1 : Ref sig .tc := ⟨.hbm, 142, rfl⟩
abbrev main_call9_v2 : Ref sig .tc := ⟨.hbm, 143, rfl⟩
abbrev main_call9_v3 : Ref sig .tc := ⟨.hbm, 144, rfl⟩
abbrev main_call9_v4 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_20 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩

abbrev nD : Nat := 1
abbrev τ : Topo := Topo.v7x

variable {F : FTy → Type} [FloatOps F]
-- ==== Proof.KernelRun.lean ====
/-
  THE KERNEL'S RUN. The program is a stretch of host operations (the strict lower triangle of ones), the routing launch,
  the materialising launch, and a last stretch of host operations (two reshapes and the sum of the loss parts). Every
  weakly fair execution ends with every buffer at the contents `W4` that the generated frame carries through those four
  parts. The three results are read off it: dispatch and combine are the second launch's arrays reshaped, the loss is
  the sum of the first launch's loss array.
-/
module

public import proofs.«01_k».proof.Proof.Gen.KernelIdeal.Frame
public import Idealize.ShloMosaic.Lib.StableHlo.Run

@[expose] public section

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Tactic Idealize.SL Idealize.SL.RA Idealize.SL.BI Idealize.SL.BI.BIBase Idealize.SL.BI.Laws
open Idealize.SL.ProofMode Idealize.ShloMosaic.Rounds
open scoped Idealize.SL.BI
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with each device's buffers at `W4`. -/
theorem run_all : θ_run defs (onTc (τ := τ) (main (F := F))) ⟨m, fun _ => 0, ρ⟩ (fun r =>
    ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! ## The contents the launches start from -/

/-- The first launch finds the strict lower triangle: row above column strictly. -/
theorem tri_at (c : Dev nD) : V1 m ρ c main_call0_v3
    = uitofp .bf16 (cmpi .slt (iotaInDim S2048x2048 32 1) (iotaInDim S2048x2048 32 0)) := by
  show StableHlo.after hostOps0 (W0 m ρ c) (Proc.devRef .tc main_call0_v3) = _
  simp only [hostOps0, TRef.binary, TRef.nullary, TRef.unary, TRef.toBuf, TRef.ofBuf, cast_eq]
  after_results_simp

/-- The first launch finds the token array as launched. -/
theorem V1_arg0 (c : Dev nD) : V1 m ρ c main_arg0 = m ((c : Thread nD τ).loc main_arg0) := W1_args m ρ c _ (by decide)
/-- The first launch finds the gating weights as launched. -/
theorem V1_arg1 (c : Dev nD) : V1 m ρ c main_arg1 = m ((c : Thread nD τ).loc main_arg1) := W1_args m ρ c _ (by decide)

/-- The second launch finds the per-token array that the first launch leaves. -/
theorem V2_meta (c : Dev nD) : V2 m ρ c main_call0_v4_0 = (dat0 (V1 m ρ) c).arrAt 3 cfg0.N := W2_arr m ρ c 3
/-- The second launch finds the per-expert counts that the first launch leaves. -/
theorem V2_counts (c : Dev nD) : V2 m ρ c main_call0_v4_1 = (dat0 (V1 m ρ) c).arrAt 4 cfg0.N := W2_arr m ρ c 4

/-! ## The results -/

/-- Dispatch: the second launch's second array, its last axis split into expert and slot. -/
theorem dispatch_at (c : Dev nD) : W4 m ρ c (Proc.devRef .tc main_v0_0)
    = shapeCast S4x2048x16x160 ((dat1 (V2 m ρ) c).arrAt 3 cfg1.N) shapeCasts_S4x2048x2560_S4x2048x16x160 := by
  rw [← W3_arr m ρ c 3]
  show StableHlo.after hostOps2 (W3 m ρ c) (Proc.devRef .tc main_v0_0) = _
  simp only [hostOps2, TRef.binary, TRef.nullary, TRef.reshape, TRef.toBuf, TRef.ofBuf, cast_eq]
  after_results_simp
  rfl

/-- Combine: the second launch's first array, its last axis split into expert and slot. -/
theorem combine_at (c : Dev nD) : W4 m ρ c (Proc.devRef .tc main_v0_1)
    = shapeCast S4x2048x16x160 ((dat1 (V2 m ρ) c).arrAt 2 cfg1.N) shapeCasts_S4x2048x2560_S4x2048x16x160 := by
  rw [← W3_arr m ρ c 2]
  show StableHlo.after hostOps2 (W3 m ρ c) (Proc.devRef .tc main_v0_1) = _
  simp only [hostOps2, TRef.binary, TRef.nullary, TRef.reshape, TRef.toBuf, TRef.ofBuf, cast_eq]
  after_results_simp
  rfl

/-- The loss: the sum of the first launch's loss array. -/
theorem loss_at (c : Dev nD) : W4 m ρ c (Proc.devRef .tc main_v0_2)
    = Host.reduceAdd ((dat0 (V1 m ρ) c).arrAt 5 cfg0.N : (⟨S4x1x1, .f32⟩ : BufTy).Contents (Elt F))
        (constant S_ .f32 0x00000000#32) reducesTo_S4x1x1_S_d0_1_2 h_S_ := by
  rw [← W2_arr m ρ c 5, ← W3_of_ne m ρ c (Pipeline.arrRef spec0 5) (by decide)]
  show StableHlo.after hostOps2 (W3 m ρ c) (Proc.devRef .tc main_v0_2) = _
  simp only [hostOps2, TRef.binary, TRef.nullary, TRef.reshape, TRef.toBuf, TRef.ofBuf, cast_eq]
  after_results_simp

/-- THE RUN: every weakly fair execution ends with the three results as above and the arguments unchanged. -/
theorem run : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_v0_2) = W4 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v0_0 (by decide)), h c _ (mem_uc main_v0_1 (by decide)), h c _ (mem_uc main_v0_2 (by decide)),
     (h c _ (mem_uc main_arg0 (by decide))).trans (W4_main_arg0 m ρ c),
     (h c _ (mem_uc main_arg1 (by decide))).trans (W4_main_arg1 m ρ c)⟩) (run_all m ρ)

end Cert.KernelIdeal.Whole

end
-- ==== Proof.Model.lean ====
/-
  THE MATHEMATICS OF TOP-TWO GATING, over the extended reals. Nothing here mentions a program.

  For one batch row of 2048 tokens, sixteen experts and the gate probabilities `P n e`: each token's first expert is the
  least place of its largest probability; its second expert the least place of the largest probability once the first
  is struck out. A token's slot at its first expert is the number of earlier tokens with that first expert; its slot at
  the second is the number of earlier tokens with that second expert plus the slots the first choices take there, at most
  160. Slots from 160 on are dropped.
-/
module

public import Idealize.ShloMosaic.PureOps.Ideal
public import Idealize.ShloMosaic.PureOps.Ideal.Laws

@[expose] public section

noncomputable section

namespace TopTwo

open Idealize.ShloMosaic
open scoped BigOperators

/-! ## The largest of sixteen, and its least place -/

/-- The largest of sixteen values. -/
def rowMax (q : Fin 16 → EReal) : EReal := Finset.univ.fold max ⊥ q

/-- Every value is at most the largest. -/
theorem le_rowMax (q : Fin 16 → EReal) (e : Fin 16) : q e ≤ rowMax q :=
  (Finset.fold_max_le (s := Finset.univ) (f := q) (b := ⊥) (rowMax q)).1 le_rfl |>.2 e (Finset.mem_univ e)

/-- The largest is one of the values. -/
theorem exists_eq_rowMax (q : Fin 16 → EReal) : ∃ e, q e = rowMax q := by
  obtain ⟨e, -, he⟩ := Finset.exists_max_image (Finset.univ : Finset (Fin 16)) q ⟨0, Finset.mem_univ _⟩
  exact ⟨e, le_antisymm (le_rowMax q e) ((Finset.fold_max_le _).2 ⟨bot_le, fun i hi => he i hi⟩)⟩

/-- The places that hold the largest value. -/
def places (q : Fin 16 → EReal) : Finset (Fin 16) := Finset.univ.filter fun e => q e = rowMax q

theorem places_nonempty (q : Fin 16 → EReal) : (places q).Nonempty := by
  obtain ⟨e, he⟩ := exists_eq_rowMax q
  exact ⟨e, Finset.mem_filter.2 ⟨Finset.mem_univ e, he⟩⟩

/-- The least place that holds the largest value. -/
def top (q : Fin 16 → EReal) : Fin 16 := (places q).min' (places_nonempty q)

/-- The value there is the largest. -/
theorem top_spec (q : Fin 16 → EReal) : q (top q) = rowMax q :=
  (Finset.mem_filter.1 ((places q).min'_mem (places_nonempty q))).2

/-- No earlier place holds the largest value. -/
theorem top_le (q : Fin 16 → EReal) (e : Fin 16) (h : q e = rowMax q) : top q ≤ e :=
  (places q).min'_le e (Finset.mem_filter.2 ⟨Finset.mem_univ e, h⟩)

/-- A small natural number's word, read signed, is that number. -/
theorem toInt_ofNat (n : ℕ) (h : n < 4096) : (BitVec.ofNat 32 n).toInt = (n : ℤ) := by
  rw [BitVec.toInt_eq_toNat_cond, BitVec.toNat_ofNat]
  split <;> omega

/-- A small natural number's word, read unsigned, is that number. -/
theorem toNat_ofNat (n : ℕ) (h : n < 4096) : (BitVec.ofNat 32 n).toNat = n := by
  rw [BitVec.toNat_ofNat]; omega

/-- Words of two small natural numbers are equal exactly when the numbers are. -/
theorem ofNat_inj (a b : ℕ) (ha : a < 4096) (hb : b < 4096) : BitVec.ofNat 32 a = BitVec.ofNat 32 b ↔ a = b := by
  constructor
  · intro h
    have := congrArg BitVec.toNat h
    rwa [toNat_ofNat a ha, toNat_ofNat b hb] at this
  · rintro rfl; rfl

/-- The signed minimum of two words, read signed. -/
theorem toInt_minsi (a b : BitVec 32) : (IntOp.minsi a b).toInt = min a.toInt b.toInt := by
  unfold IntOp.minsi
  by_cases h : a.slt b
  · simp only [h, if_true]
    have := BitVec.slt_iff_toInt_lt.1 h
    omega
  · simp only [h]
    have : ¬ a.toInt < b.toInt := fun h' => h (BitVec.slt_iff_toInt_lt.2 h')
    simp; omega

/-- The least place as the minimum of the words of the places that hold the largest value, the others counting as 16. -/
theorem fold_minsi_eq_top (q : Fin 16 → EReal) :
    Finset.univ.fold IntOp.minsi 2147483647#32 (fun e : Fin 16 => if q e = rowMax q then BitVec.ofNat 32 e.val else 16#32)
      = BitVec.ofNat 32 (top q).val := by
  apply BitVec.eq_of_toInt_eq
  rw [toInt_ofNat _ (by omega), ← Finset.fold_hom (op' := min) (m := BitVec.toInt) (hm := toInt_minsi)]
  apply le_antisymm
  · refine (Finset.fold_min_le _).2 (.inr ⟨top q, Finset.mem_univ _, ?_⟩)
    rw [if_pos (top_spec q), toInt_ofNat _ (by omega)]
  · refine (Finset.le_fold_min _).2 ⟨?_, fun e _ => ?_⟩
    · have : (2147483647#32 : BitVec 32).toInt = 2147483647 := by decide
      rw [this]; omega
    · split
      · next h => rw [toInt_ofNat _ (by omega)]; exact_mod_cast top_le q e h
      · have : (16#32 : BitVec 32).toInt = 16 := by decide
        rw [this]; omega

/-! ### The same by a fold over (value, place) pairs -/

/-- `r` is at least as good as `p`: a larger value, or the same value at no later a place. -/
def Beats (r p : EReal × BitVec 32) : Prop := p.1 < r.1 ∨ (p.1 = r.1 ∧ r.2.toInt ≤ p.2.toInt)

theorem Beats.refl (p : EReal × BitVec 32) : Beats p p := .inr ⟨rfl, le_rfl⟩

theorem Beats.trans {a b c : EReal × BitVec 32} (h : Beats a b) (h' : Beats b c) : Beats a c := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- Whatever combines two pairs into the better of them finds, over a list, a pair of it that beats them all. -/
theorem foldl_beats (f : EReal × BitVec 32 → EReal × BitVec 32 → EReal × BitVec 32)
    (hf : ∀ a b, (f a b = a ∨ f a b = b) ∧ Beats (f a b) a ∧ Beats (f a b) b) :
    ∀ (l : List (EReal × BitVec 32)) (a : EReal × BitVec 32),
      (l.foldl f a = a ∨ l.foldl f a ∈ l) ∧ Beats (l.foldl f a) a ∧ ∀ p ∈ l, Beats (l.foldl f a) p
  | [], a => ⟨.inl rfl, Beats.refl a, fun _ h => nomatch h⟩
  | b :: l, a => by
    obtain ⟨hm, hb, hl⟩ := foldl_beats f hf l (f a b)
    obtain ⟨hab, ha, hb'⟩ := hf a b
    rw [List.foldl_cons]
    refine ⟨?_, hb.trans ha, fun p hp => ?_⟩
    · rcases hm with hm | hm
      · rcases hab with h | h
        · exact .inl (hm.trans h)
        · exact .inr (by rw [hm, h]; exact List.mem_cons_self)
      · exact .inr (List.mem_cons_of_mem _ hm)
    · rcases List.mem_cons.1 hp with rfl | hp
      · exact hb.trans hb'
      · exact hl p hp

/-- Over a list of exactly the pairs of the sixteen values and their places, from the pair (−∞, 0), the place found is the
    least place of the largest value. -/
theorem foldl_eq_top (q : Fin 16 → EReal) (f : EReal × BitVec 32 → EReal × BitVec 32 → EReal × BitVec 32)
    (hf : ∀ a b, (f a b = a ∨ f a b = b) ∧ Beats (f a b) a ∧ Beats (f a b) b) (l : List (EReal × BitVec 32))
    (hl : ∀ p, p ∈ l ↔ ∃ e : Fin 16, p = (q e, BitVec.ofNat 32 e.val)) :
    (l.foldl f (⊥, 0#32)).2 = BitVec.ofNat 32 (top q).val := by
  obtain ⟨hm, -, hb⟩ := foldl_beats f hf l (⊥, 0#32)
  have ht := hb _ ((hl _).2 ⟨top q, rfl⟩)
  generalize l.foldl f (⊥, 0#32) = r at hm ht
  rcases hm with rfl | hm
  · rcases ht with ht | ⟨ht, -⟩
    · exact absurd ht not_lt_bot
    · have h0 : top q = 0 := le_antisymm (top_le q 0 (le_antisymm (le_rowMax q 0) (by
        rw [← top_spec q]; exact le_of_eq_of_le ht bot_le))) (Fin.zero_le _)
      rw [h0]; rfl
  · obtain ⟨e, rfl⟩ := (hl r).1 hm
    rcases ht with ht | ⟨ht, hi⟩
    · exact absurd (le_rowMax q e) (not_le.2 (by rw [← top_spec q]; exact ht))
    · have h1 := top_le q e (ht.symm.trans (top_spec q))
      have hi' : (BitVec.ofNat 32 e.val).toInt ≤ (BitVec.ofNat 32 (top q).val).toInt := hi
      rw [toInt_ofNat _ (by omega), toInt_ofNat _ (by omega)] at hi'
      have : e = top q := Fin.ext (by have : (top q).val ≤ e.val := h1; omega)
      rw [this]

/-! ## Counting tokens -/

/-- How many earlier tokens chose the expert that token `n` chose, by the choices `s`. -/
def rank (s : Fin 2048 → Fin 16) (n : Fin 2048) : ℕ := ∑ k : Fin 2048, if k < n ∧ s k = s n then 1 else 0

/-- How many tokens chose expert `e`. -/
def count (s : Fin 2048 → Fin 16) (e : Fin 16) : ℕ := ∑ k : Fin 2048, if s k = e then 1 else 0

theorem rank_lt (s : Fin 2048 → Fin 16) (n : Fin 2048) : rank s n < 2048 := by
  have h : rank s n < ∑ _k : Fin 2048, 1 :=
    Finset.sum_lt_sum (fun k _ => by split <;> omega) ⟨n, Finset.mem_univ n, by simp⟩
  simpa using h

/-- Counting along a sequence only while the count so far is below `C` gives the count, at most `C`. -/
theorem sum_capped (p : ℕ → Prop) [DecidablePred p] (C k : ℕ) :
    (∑ i ∈ Finset.range k, if p i ∧ (∑ j ∈ Finset.range i, if p j then 1 else 0) < C then 1 else 0)
      = min (∑ i ∈ Finset.range k, if p i then 1 else 0) C := by
  induction k with
  | zero => simp
  | succ k ih =>
    rw [Finset.sum_range_succ, Finset.sum_range_succ, ih]
    by_cases hp : p k <;> by_cases hc : (∑ j ∈ Finset.range k, if p j then 1 else 0) < C <;> simp only [hp, hc, true_and, false_and, if_true, if_false] <;> omega

/-- The tokens that chose `e` and rank below `C` there: the tokens that chose `e`, at most `C`. -/
theorem count_kept (s : Fin 2048 → Fin 16) (e : Fin 16) (C : ℕ) :
    (∑ k : Fin 2048, if s k = e ∧ rank s k < C then 1 else 0) = min (count s e) C := by
  let p : ℕ → Prop := fun i => ∃ h : i < 2048, s ⟨i, h⟩ = e
  classical
  have hp : ∀ k : Fin 2048, p k.val ↔ s k = e := fun k => ⟨fun ⟨_, h⟩ => h, fun h => ⟨k.isLt, h⟩⟩
  have hr : ∀ k : Fin 2048, s k = e → rank s k = ∑ j ∈ Finset.range k.val, if p j then 1 else 0 := fun k hk => by
    unfold rank
    rw [hk, Finset.sum_congr rfl fun j _ => show (if j < k ∧ s j = e then 1 else 0) = (fun i : ℕ => if i < k.val ∧ p i then 1 else 0) j.val from
        if_congr (and_congr Iff.rfl (hp j).symm) rfl rfl,
      Fin.sum_univ_eq_sum_range (fun i : ℕ => if i < k.val ∧ p i then 1 else 0) 2048,
      ← Finset.sum_subset (Finset.range_subset_range.2 (le_of_lt k.isLt)) fun i _ hi => if_neg fun h => hi (Finset.mem_range.2 h.1)]
    exact Finset.sum_congr rfl fun i hi => if_congr (by simp [Finset.mem_range.1 hi]) rfl rfl
  have hc : count s e = ∑ i ∈ Finset.range 2048, if p i then 1 else 0 := by
    unfold count
    rw [← Fin.sum_univ_eq_sum_range (fun i : ℕ => if p i then 1 else 0) 2048]
    exact Finset.sum_congr rfl fun k _ => if_congr (hp k).symm rfl rfl
  rw [hc, ← sum_capped p C 2048, ← Fin.sum_univ_eq_sum_range (fun i : ℕ => if p i ∧ (∑ j ∈ Finset.range i, if p j then 1 else 0) < C then 1 else 0) 2048]
  refine Finset.sum_congr rfl fun k _ => if_congr ?_ rfl rfl
  rw [hp k]
  exact and_congr_right fun hk => by rw [hr k hk]

/-! ## Zero–one values and natural numbers among the extended reals -/

/-- One where `p` holds, else zero. -/
def ind (p : Prop) [Decidable p] : EReal := if p then 1 else 0

theorem ind_eq_cast (p : Prop) [Decidable p] : ind p = ((if p then 1 else 0 : ℕ) : EReal) := by
  unfold ind; split <;> simp

theorem ind_mul_ind (p q : Prop) [Decidable p] [Decidable q] : ind p * ind q = ind (p ∧ q) := by
  unfold ind; by_cases hp : p <;> by_cases hq : q <;> simp [hp, hq]

/-- A sum of zero–one values is a count. -/
theorem sum_ind {ι : Type} [Fintype ι] (p : ι → Prop) [DecidablePred p] :
    ∑ k, ind (p k) = ((∑ k, if p k then 1 else 0 : ℕ) : EReal) := by
  rw [Nat.cast_sum]; exact Finset.sum_congr rfl fun k _ => ind_eq_cast _

/-- A sum with one term that is not zero. -/
theorem sum_mul_ind (f : Fin 16 → EReal) (a : Fin 16) : ∑ e, f e * ind (e = a) = f a := by
  rw [Finset.sum_eq_single a (fun e _ he => by simp [ind, he]) (fun h => absurd (Finset.mem_univ a) h)]
  simp [ind]

theorem natural_lt (a b : ℕ) : ((a : ℕ) : EReal) < ((b : ℕ) : EReal) ↔ a < b := Nat.cast_lt
theorem natural_inj (a b : ℕ) : ((a : ℕ) : EReal) = ((b : ℕ) : EReal) ↔ a = b := Nat.cast_inj

/-- The smaller of two natural numbers. -/
theorem natural_min (a b : ℕ) : ((min a b : ℕ) : EReal) = min ((a : ℕ) : EReal) ((b : ℕ) : EReal) :=
  (Nat.mono_cast (α := EReal)).map_min

/-- The difference of two natural numbers, the second at most the first. -/
theorem natural_sub (a b : ℕ) (h : b ≤ a) : ((a : ℕ) : EReal) - ((b : ℕ) : EReal) = ((a - b : ℕ) : EReal) := by
  rw [← EReal.coe_natCast, ← EReal.coe_natCast, ← EReal.coe_natCast, ← EReal.coe_sub, Nat.cast_sub h]

/-! ## The gate -/

variable (P : Fin 2048 → Fin 16 → EReal)

/-- The first choice. -/
def e1 (n : Fin 2048) : Fin 16 := top (P n)
/-- The probabilities with the first choice struck out. -/
def rest (n : Fin 2048) (e : Fin 16) : EReal := P n e * (1 - ind (e = e1 P n))
/-- The second choice. -/
def e2 (n : Fin 2048) : Fin 16 := top (rest P n)
/-- The first choice's probability. -/
def g1 (n : Fin 2048) : EReal := rowMax (P n)
/-- The second choice's probability. -/
def g2 (n : Fin 2048) : EReal := rowMax (rest P n)
/-- What the two probabilities are divided by. -/
def den (n : Fin 2048) : EReal := g1 P n + g2 P n + Ideal.ofBits .f32 0x3089705F#32
/-- The first choice's weight. -/
def w1 (n : Fin 2048) : EReal := Ideal.div (g1 P n) (den P n)
/-- The second choice's weight. -/
def w2 (n : Fin 2048) : EReal := Ideal.div (g2 P n) (den P n)
/-- The slot at the first choice. -/
def pos1 (n : Fin 2048) : ℕ := rank (e1 P) n
/-- The slot at the second choice. -/
def pos2 (n : Fin 2048) : ℕ := rank (e2 P) n + min (count (e1 P) (e2 P n)) 160

theorem pos1_lt (n : Fin 2048) : pos1 P n < 2048 := rank_lt _ _
theorem pos2_lt (n : Fin 2048) : pos2 P n < 4096 := by
  have := rank_lt (e2 P) n
  unfold pos2; omega

/-- How much of token `n` goes back from slot `c` of expert `e`. -/
def combine (n : Fin 2048) (e : Fin 16) (c : Fin 160) : EReal :=
  (if e = e1 P n ∧ c.val = pos1 P n then w1 P n else 0) + (if e = e2 P n ∧ c.val = pos2 P n then w2 P n else 0)

/-- Whether token `n` is sent to slot `c` of expert `e`. -/
def dispatch (n : Fin 2048) (e : Fin 16) (c : Fin 160) : EReal := ind (combine P n e c ≠ 0)

/-- One batch row's part of the balancing loss, before scaling: over the experts, the number of tokens with that first
    choice times the sum of the probabilities. -/
def lossPart : EReal := ∑ e : Fin 16, ((count (e1 P) e : ℕ) : EReal) * ∑ n : Fin 2048, P n e

/-! ## The probabilities -/

/-- A token's product with the gating weights. -/
def logit (X : Fin 2048 → Fin 1024 → EReal) (W : Fin 1024 → Fin 16 → EReal) (n : Fin 2048) (e : Fin 16) : EReal :=
  ∑ k : Fin 1024, X n k * W k e

/-- The softmax of the products over the experts. -/
def probs (X : Fin 2048 → Fin 1024 → EReal) (W : Fin 1024 → Fin 16 → EReal) (n : Fin 2048) (e : Fin 16) : EReal :=
  Ideal.div (Ideal.exp (logit X W n e - rowMax (logit X W n)))
    (∑ e' : Fin 16, Ideal.exp (logit X W n e' - rowMax (logit X W n)))

/-! ## Constants -/

/-- The single-precision pattern of −∞. -/
theorem ofBits_bot : Ideal.ofBits .f32 0xFF800000#32 = ⊥ := by simp [Ideal.ofBits, Ideal.ieee]
/-- The pattern of 160. -/
theorem ofBits_160 : Ideal.ofBits .f32 0x43200000#32 = ((160 : ℕ) : EReal) := by
  rw [← EReal.coe_natCast]; simp [Ideal.ofBits, Ideal.ieee]; rw [← EReal.coe_mul]; norm_num

end TopTwo

end
-- ==== Proof.GateBlock.lean ====
/-
  WHAT THE GATE STEP COMPUTES ON ONE BATCH ROW: each value of the step, read at an index, is the model's.
-/
module

public import proofs.«01_k».proof.Proof.Gen.KernelIdeal.Skeleton
public import proofs.«01_k».proof.Proof.Model
public import Idealize.ShloMosaic.Lib.Pointwise

@[expose] public section

set_option maxRecDepth 16384

noncomputable section

namespace Cert.KernelIdeal.Gate

open Cert.KernelIdeal Cert.KernelIdeal.Gen Idealize.ShloMosaic Idealize.ShloMosaic.TcCoe Idealize.SL.Sem TopTwo

/-- The conversion of a comparison's bit to a float: one where it holds, else zero. -/
theorem sitofp_bit (p : Prop) [Decidable p] (b : BitVec 1) (hb : b = BitVec.ofBool (decide p)) :
    (FloatOps.sitofp .f32 (BitVec.setWidth 32 b) : Ideal .f32) = ind p := by
  subst hb
  show (((BitVec.setWidth 32 (BitVec.ofBool (decide p))).toInt : ℝ) : EReal) = ind p
  unfold ind
  by_cases h : p <;> simp [h]

/-- The same, unsigned. -/
theorem uitofp_bit {φ : FTy} (p : Prop) [Decidable p] (b : BitVec 1) (hb : b = BitVec.ofBool (decide p)) :
    (FloatOps.uitofp φ b : Ideal φ) = ind p := by
  subst hb
  show (((BitVec.ofBool (decide p)).toNat : ℝ) : EReal) = ind p
  unfold ind
  by_cases h : p <;> simp [h]

/-- Equality of the words of two experts. -/
theorem cmpi_expert (a b : Fin 16) :
    IntOp.cmpi .eq (BitVec.ofNat 32 a.val) (BitVec.ofNat 32 b.val) = BitVec.ofBool (decide (a = b)) := by
  have : (BitVec.ofNat 32 a.val = BitVec.ofNat 32 b.val) ↔ a = b := by
    rw [ofNat_inj _ _ (by omega) (by omega)]; exact Fin.ext_iff.symm
  show BitVec.ofBool (BitVec.ofNat 32 a.val == BitVec.ofNat 32 b.val) = _
  rw [show (BitVec.ofNat 32 a.val == BitVec.ofNat 32 b.val) = decide (a = b) from by
    rw [Bool.eq_iff_iff]; simp only [beq_iff_eq, decide_eq_true_eq]; exact this]

/-- The strict lower triangle's entry. -/
theorem cmpi_triangle (n m : Fin 2048) :
    IntOp.cmpi .slt (BitVec.ofNat 32 m.val) (BitVec.ofNat 32 n.val) = BitVec.ofBool (decide (m < n)) := by
  show BitVec.ofBool (BitVec.slt (BitVec.ofNat 32 m.val) (BitVec.ofNat 32 n.val)) = _
  rw [show BitVec.slt (BitVec.ofNat 32 m.val) (BitVec.ofNat 32 n.val) = decide (m < n) from by
    rw [Bool.eq_iff_iff, BitVec.slt_iff_toInt_lt, toInt_ofNat _ (by omega), toInt_ofNat _ (by omega)]; simp]

/-- A product with the strict lower triangle, at the chosen expert, is the rank of the choice. -/
theorem triangle_rank (s : Fin 2048 → Fin 16) (n : Fin 2048) (f : Fin 16 → EReal)
    (hf : ∀ e, f e = (∑ m : Fin 2048, ind (m < n) * ind (e = s m)) * ind (e = s n)) :
    ∑ e, f e = ((rank s n : ℕ) : EReal) := by
  rw [Finset.sum_congr rfl fun e _ => hf e, sum_mul_ind (fun e => ∑ m : Fin 2048, ind (m < n) * ind (e = s m)) (s n)]
  unfold rank
  rw [← sum_ind]
  exact Finset.sum_congr rfl fun m _ => by
    rw [ind_mul_ind]; unfold ind; exact if_congr (and_congr_right fun _ => eq_comm) rfl rfl

variable (x : Vec Ideal S1x2048x1024 .f32) (w : Vec Ideal S1024x16 .f32)

/-- The probabilities of the block's tokens. -/
abbrev prob : Fin 2048 → Fin 16 → EReal := probs (fun n k => x (ix3 0 n k)) (fun k e => w (ix2 k e))

theorem pay2_at (n : Fin 2048) (e : Fin 16) : k0_pay2 (F := Ideal) x w (ix2 n e) = prob x w n e := by
  pointwise [k0_pay2]
  unfold prob probs rowMax logit
  rw [ofBits_bot]

theorem pay3_at (n : Fin 2048) : k0_pay3 (F := Ideal) x w (ix2 n 0) = g1 (prob x w) n := by
  pointwise [k0_pay3]
  rw [ofBits_bot]
  simp only [pay2_at]
  rfl

theorem pay4_at (n : Fin 2048) : k0_pay4 (F := Ideal) x w (ix2 n 0) = BitVec.ofNat 32 (e1 (prob x w) n).val := by
  pointwise [k0_pay4]
  simp only [pay2_at, pay3_at]
  exact fold_minsi_eq_top _

theorem pay5_at (n : Fin 2048) (e : Fin 16) : k0_pay5 (F := Ideal) x w (ix2 n e) = ind (e = e1 (prob x w) n) := by
  pointwise [k0_pay5]
  rw [pay4_at]
  exact sitofp_bit _ _ (cmpi_expert _ _)

theorem pay6_at (n : Fin 2048) (e : Fin 16) : k0_pay6 (F := Ideal) x w (ix2 n e) = rest (prob x w) n e := by
  pointwise [k0_pay6]
  rw [pay2_at, pay5_at]
  rfl

theorem pay7_at (n : Fin 2048) : k0_pay7 (F := Ideal) x w (ix2 n 0) = g2 (prob x w) n := by
  pointwise [k0_pay7]
  rw [ofBits_bot]
  simp only [pay6_at]
  rfl

theorem pay8_at (n : Fin 2048) : k0_pay8 (F := Ideal) x w (ix2 n 0) = BitVec.ofNat 32 (e2 (prob x w) n).val := by
  pointwise [k0_pay8]
  simp only [pay6_at, pay7_at]
  exact fold_minsi_eq_top _

theorem pay9_at (n : Fin 2048) (e : Fin 16) : k0_pay9 (F := Ideal) x w (ix2 n e) = ind (e = e2 (prob x w) n) := by
  pointwise [k0_pay9]
  rw [pay8_at]
  exact sitofp_bit _ _ (cmpi_expert _ _)

theorem pay10_at (n : Fin 2048) : k0_pay10 (F := Ideal) x w (ix2 n 0) = g1 (prob x w) n + g2 (prob x w) n := by
  pointwise [k0_pay10]
  rw [pay3_at, pay7_at]

/-- What one row of the step's own table holds, in its eight columns: the first expert, its slot, its weight where the slot
    is kept, the second expert, the second choices ahead, and its weight. -/
def metaAt (P : Fin 2048 → Fin 16 → EReal) (n : Fin 2048) : Fin 8 → EReal :=
  ![((e1 P n).val : EReal), ((pos1 P n : ℕ) : EReal), w1 P n * ind (pos1 P n < 160), ((e2 P n).val : EReal),
    ((rank (e2 P) n : ℕ) : EReal), w2 P n, 0, 0]

/-- The word of a small natural number, converted to a float, is the number. -/
theorem sitofp_ofNat (k : ℕ) (h : k < 4096) : (FloatOps.sitofp .f32 (BitVec.ofNat 32 k) : Ideal .f32) = ((k : ℕ) : EReal) := by
  show (((BitVec.ofNat 32 k).toInt : ℝ) : EReal) = _
  rw [toInt_ofNat k h, ← EReal.coe_natCast]
  norm_cast

variable (t : Vec Ideal S2048x2048 .bf16) (ht : ∀ n m : Fin 2048, t (ix2 n m) = ind (m < n))

/-- The table's row from the values it is made of. -/
theorem table_row (v15 : FVec Ideal S2048x1 .f32) (v21 : IVec S2048x1 32) (v25 : FVec Ideal S2048x16 .f32)
    (v30 : FVec Ideal S2048x1 .f32) (v36 : IVec S2048x1 32) (v40 : FVec Ideal S2048x16 .f32) (v41 v42 : FVec Ideal S2048x1 .f32)
    (v46 : Vec Ideal S2048x2048 .bf16) (n : Fin 2048) (e : Fin 8) :
    k0_pay12 (F := Ideal) v15 v21 v25 v30 v36 v40 v41 v42 v46 (ix4 0 0 n e)
      = (![(FloatOps.sitofp .f32 (v21 (ix2 n 0)) : Ideal .f32), ∑ e : Fin 16, (∑ m : Fin 2048, v46 (ix2 n m) * v25 (ix2 m e)) * v25 (ix2 n e),
          Ideal.div (v15 (ix2 n 0)) (v41 (ix2 n 0) + v42 (ix2 n 0))
            * ind ((∑ e : Fin 16, (∑ m : Fin 2048, v46 (ix2 n m) * v25 (ix2 m e)) * v25 (ix2 n e)) < ((160 : ℕ) : EReal)),
          (FloatOps.sitofp .f32 (v36 (ix2 n 0)) : Ideal .f32), ∑ e : Fin 16, (∑ m : Fin 2048, v46 (ix2 n m) * v40 (ix2 m e)) * v40 (ix2 n e),
          Ideal.div (v30 (ix2 n 0)) (v41 (ix2 n 0) + v42 (ix2 n 0)), 0, 0] : Fin 8 → EReal) e := by
  rw [← ofBits_160]
  pointwise [k0_pay12]
  fin_vals e with he
  all_goals try simp [he]
  all_goals first
    | (rw [show e = 0 from Fin.ext he]; rfl)
    | (rw [show e = 1 from Fin.ext he]; rfl)
    | (rw [show e = 2 from Fin.ext he]; exact Ideal.mul_congr rfl (sitofp_bit _ _ rfl))
    | (rw [show e = 3 from Fin.ext he]; rfl)
    | (rw [show e = 4 from Fin.ext he]; rfl)
    | (rw [show e = 5 from Fin.ext he]; rfl)
    | (rw [show e = 6 from Fin.ext he]; rfl)
    | (rw [show e = 7 from Fin.ext he]; rfl)

include ht in
theorem meta_at (n : Fin 2048) (e : Fin 8) :
    k0_pay12 (F := Ideal) (k0_pay3 x w) (k0_pay4 x w) (k0_pay5 x w) (k0_pay7 x w) (k0_pay8 x w) (k0_pay9 x w) (k0_pay10 x w) k0_pay11 t (ix4 0 0 n e)
      = metaAt (prob x w) n e := by
  have hr1 := triangle_rank (e1 (prob x w)) n (fun e => (∑ m : Fin 2048, t (ix2 n m) * k0_pay5 x w (ix2 m e)) * k0_pay5 x w (ix2 n e))
    (fun e => by simp only [ht, pay5_at])
  have hr2 := triangle_rank (e2 (prob x w)) n (fun e => (∑ m : Fin 2048, t (ix2 n m) * k0_pay9 x w (ix2 m e)) * k0_pay9 x w (ix2 n e))
    (fun e => by simp only [ht, pay9_at])
  have he : k0_pay11 (F := Ideal) (ix2 n 0) = Ideal.ofBits .f32 0x3089705F#32 := by pointwise [k0_pay11]
  have hk : ind (((rank (e1 (prob x w)) n : ℕ) : EReal) < ((160 : ℕ) : EReal)) = ind (pos1 (prob x w) n < 160) := by
    unfold ind; exact if_congr (natural_lt _ _) rfl rfl
  rw [table_row, hr1, hr2, hk, pay3_at, pay4_at, pay7_at, pay8_at, pay10_at, he, sitofp_ofNat _ (by omega), sitofp_ofNat _ (by omega)]
  rfl

theorem counts_at (e : Fin 16) : k0_pay14 (F := Ideal) (k0_pay5 x w) (ix3 0 0 e) = ((TopTwo.count (e1 (prob x w)) e : ℕ) : EReal) := by
  pointwise [k0_pay14, k0_pay13]
  simp only [pay5_at]
  rw [sum_ind]
  unfold TopTwo.count
  exact congrArg _ (Finset.sum_congr rfl fun k _ => if_congr eq_comm rfl rfl)

/-- The row's part of the loss, before its constant factor. -/
theorem loss_part (z : Ideal .f32) :
    k0_pay1 (F := Ideal) (k0_pay15 (k0_pay2 x w) (k0_pay5 x w)) z = lossPart (prob x w) * z := by
  pointwise [k0_pay15, k0_pay13, k0_pay1]
  simp only [pay2_at, pay5_at]
  refine Ideal.mul_congr ?_ rfl
  rw [Fin.sum_univ_one]
  unfold lossPart
  refine Finset.sum_congr rfl fun e _ => Ideal.mul_congr ?_ rfl
  rw [sum_ind]
  unfold TopTwo.count
  exact congrArg _ (Finset.sum_congr rfl fun k _ => if_congr eq_comm rfl rfl)

end Cert.KernelIdeal.Gate

end
-- ==== Proof.GateArrays.lean ====
/-
  WHAT THE GATE STEP'S THREE ARRAYS HOLD: each batch row's block is the model's value on that row.
-/
module

public import proofs.«01_k».proof.Proof.Gen.KernelIdeal.Frame
public import proofs.«01_k».proof.Proof.GateBlock
public import Idealize.ShloMosaic.Lib.Pipeline.ValueKit

@[expose] public section

set_option maxRecDepth 16384

noncomputable section

namespace Cert.KernelIdeal.Gate

open Cert.KernelIdeal Cert.KernelIdeal.Gen Idealize.ShloMosaic Idealize.ShloMosaic.TcCoe Idealize.SL.Sem TopTwo

/-- The probabilities of batch row `b`, from the tokens and the gating weights. -/
def batch (X : Vec Ideal S4x2048x1024 .f32) (W : Vec Ideal S1024x16 .f32) (b : Fin 4) : Fin 2048 → Fin 16 → EReal :=
  probs (fun n k => X (ix3 b n k)) (fun k e => W (ix2 k e))

/-- Where each point's blocks lie. -/
theorem idx : ∀ t : Fin cfg0.N, win0_0.index t = ![t.val, 0, 0] ∧ win0_1.index t = ![0, 0] ∧ win0_2.index t = ![0, 0]
    ∧ win0_3.index t = ![t.val, 0, 0, 0] ∧ win0_4.index t = ![t.val, 0, 0] ∧ win0_5.index t = ![t.val, 0, 0] :=
  (by decide +kernel : ∀ t : Fin grid0.N, _)

variable (V : (c : Dev nD) → (b : Ref sig .tc) → Buf (Elt Ideal) ((c : Thread nD τ).loc b)) (c : Dev nD)

/-- A point's tokens and weights are one batch row's. -/
theorem prob_point (t : Fin cfg0.N) (b : Fin 4) (hb : b.val = t.val) :
    prob (iblk0 V c 0 t) (iblk0 V c 1 t) = batch (V c main_arg0) (V c main_arg1) b := by
  unfold prob batch
  congr 1
  · funext n k
    blk_ext [iblk0, idx t]
  · funext k e
    blk_ext [iblk0, idx t]

variable (hV : ∀ n m : Fin 2048, (V c main_call0_v3 : Vec Ideal S2048x2048 .bf16) (ix2 n m) = ind (m < n))

include hV in
/-- A point's triangle is the strict lower one. -/
theorem triangle_point (t : Fin cfg0.N) (n m : Fin 2048) : (iblk0 V c 2 t : Vec Ideal S2048x2048 .bf16) (ix2 n m) = ind (m < n) := by
  rw [← hV n m]
  blk_ext [iblk0, idx t]

include hV in
/-- A point's table, read where its block lies in the array. -/
theorem meta_point (t : Fin cfg0.N) (y : S1x1x2048x8.Idx) (i : S4x1x2048x8.Idx) (h0 : (i 0 : ℕ) = t.val)
    (h2 : (i 2 : ℕ) = y 2) (h3 : (i 3 : ℕ) = y 3) :
    k0_pay12 (F := Ideal) (k0_pay3 (iblk0 V c 0 t) (iblk0 V c 1 t)) (k0_pay4 (iblk0 V c 0 t) (iblk0 V c 1 t))
      (k0_pay5 (iblk0 V c 0 t) (iblk0 V c 1 t)) (k0_pay7 (iblk0 V c 0 t) (iblk0 V c 1 t))
      (k0_pay8 (iblk0 V c 0 t) (iblk0 V c 1 t)) (k0_pay9 (iblk0 V c 0 t) (iblk0 V c 1 t))
      (k0_pay10 (iblk0 V c 0 t) (iblk0 V c 1 t)) k0_pay11 (iblk0 V c 2 t) y
    = metaAt (batch (V c main_arg0) (V c main_arg1) (i 0)) (i 2) (i 3) := by
  have hy : y = ix4 0 0 (y 2) (y 3) := by idx_ext
  have e2 : (i 2 : Fin 2048) = y 2 := Fin.ext h2
  have e3 : (i 3 : Fin 8) = y 3 := Fin.ext h3
  rw [e2, e3, ← prob_point V c t (i 0) h0]
  exact (congrArg _ hy).trans (meta_at _ _ _ (triangle_point V c hV t) (y 2) (y 3))

include hV in
/-- The table's array. -/
theorem meta_array : (dat0 V c).arrAt 3 cfg0.N
    = (fun i => metaAt (batch (V c main_arg0) (V c main_arg1) (i 0)) (i 2) (i 3) : Vec Ideal S4x1x2048x8 .f32) := by
  refine (dat0 V c).arrAt_eq_of_covers 3 _ (by decide +kernel) fun t _ y => ?_
  blk_simp
  rw [after0_3]
  unfold outsAt0
  frame_out
  refine meta_point V c hV t y _ ?_ ?_ ?_
  all_goals (blk_simp [idx t] <;> try omega)

/-- A point's counts, read where its block lies in the array. -/
theorem counts_point (t : Fin cfg0.N) (y : S1x1x16.Idx) (i : S4x1x16.Idx) (h0 : (i 0 : ℕ) = t.val) (h2 : (i 2 : ℕ) = y 2) :
    k0_pay14 (F := Ideal) (k0_pay5 (iblk0 V c 0 t) (iblk0 V c 1 t)) y
    = ((TopTwo.count (e1 (batch (V c main_arg0) (V c main_arg1) (i 0))) (i 2) : ℕ) : EReal) := by
  have hy : y = ix3 0 0 (y 2) := by idx_ext
  have e2 : (i 2 : Fin 16) = y 2 := Fin.ext h2
  rw [e2, ← prob_point V c t (i 0) h0]
  exact (congrArg _ hy).trans (counts_at _ _ (y 2))

/-- The counts' array. -/
theorem counts_array : (dat0 V c).arrAt 4 cfg0.N
    = (fun i => ((TopTwo.count (e1 (batch (V c main_arg0) (V c main_arg1) (i 0))) (i 2) : ℕ) : EReal) : Vec Ideal S4x1x16 .f32) := by
  refine (dat0 V c).arrAt_eq_of_covers 4 _ (by decide +kernel) fun t _ y => ?_
  blk_simp
  rw [after0_4]
  unfold outsAt0
  frame_out
  refine counts_point V c t y _ ?_ ?_
  all_goals (blk_simp [idx t] <;> try omega)

/-- A point's part of the loss. -/
theorem loss_point (t : Fin cfg0.N) (z : Ideal .f32) (i : S4x1x1.Idx) (h0 : (i 0 : ℕ) = t.val) :
    k0_pay1 (F := Ideal) (k0_pay15 (k0_pay2 (iblk0 V c 0 t) (iblk0 V c 1 t)) (k0_pay5 (iblk0 V c 0 t) (iblk0 V c 1 t))) z
    = lossPart (batch (V c main_arg0) (V c main_arg1) (i 0)) * z := by
  rw [← prob_point V c t (i 0) h0]
  exact loss_part _ _ z

/-- The loss's array of parts. -/
theorem loss_array : (dat0 V c).arrAt 5 cfg0.N
    = (fun i => lossPart (batch (V c main_arg0) (V c main_arg1) (i 0)) * Ideal.ofBits .f32 0x35800000#32 : Vec Ideal S4x1x1 .f32) := by
  refine (dat0 V c).arrAt_eq_of_covers 5 _ (by decide +kernel) fun t _ y => ?_
  blk_simp
  rw [after0_5]
  unfold outsAt0
  frame_out
  refine loss_point V c t _ _ ?_
  all_goals (blk_simp [idx t] <;> try omega)

end Cert.KernelIdeal.Gate

end
-- ==== Proof.SpreadBlock.lean ====
/-
  WHAT THE SPREADING STEP COMPUTES ON ONE BLOCK OF TOKENS: from a token's row of the gate's table and the counts of its
  batch row, the token's weight in each of the 2560 lanes (expert `e`, slot `c` in lane `160·e + c`).
-/
module

public import proofs.«01_k».proof.Proof.GateBlock

@[expose] public section

set_option maxRecDepth 16384

noncomputable section

namespace TopTwo

open Idealize.ShloMosaic

/-- A lane's number as a float expression of an expert and a slot. -/
theorem cast_lane (a b : ℕ) : ((a : ℕ) : EReal) * ((160 : ℕ) : EReal) + ((b : ℕ) : EReal) = ((a * 160 + b : ℕ) : EReal) := by
  rw [← EReal.coe_natCast, ← EReal.coe_natCast, ← EReal.coe_natCast, ← EReal.coe_natCast, ← EReal.coe_mul, ← EReal.coe_add]
  push_cast; rfl

/-- One choice's weight in a lane: in the lane of its expert and slot, if the slot is kept. -/
def lanePart (e : Fin 16) (pos : ℕ) (w : EReal) (l : Fin 2560) : EReal :=
  if ((l.val : ℕ) : EReal) = ((e.val * 160 + pos : ℕ) : EReal) then w * ind (pos < 160) else 0

/-- A token's weight in a lane. -/
def lane (P : Fin 2048 → Fin 16 → EReal) (n : Fin 2048) (l : Fin 2560) : EReal :=
  lanePart (e1 P n) (pos1 P n) (w1 P n) l + lanePart (e2 P n) (pos2 P n) (w2 P n) l

/-- One choice's weight in the lane of expert `e` and slot `s`. -/
theorem lanePart_eq (a : Fin 16) (pos : ℕ) (w : EReal) (e : Fin 16) (s : Fin 160) (l : Fin 2560) (hl : l.val = e.val * 160 + s.val) :
    lanePart a pos w l = if e = a ∧ s.val = pos then w else 0 := by
  have hc : ((l.val : ℕ) : EReal) = ((a.val * 160 + pos : ℕ) : EReal) ↔ e.val * 160 + s.val = a.val * 160 + pos := by
    rw [natural_inj, hl]
  rw [lanePart, if_congr hc rfl rfl]
  by_cases hp : pos < 160
  · have hind : ind (pos < 160) = 1 := if_pos hp
    rw [hind, mul_one]
    refine if_congr ?_ rfl rfl
    rw [Fin.ext_iff]
    omega
  · have hind : ind (pos < 160) = 0 := if_neg hp
    rw [hind, mul_zero, ite_self, if_neg (by omega)]

/-- A token's weight in the lane of expert `e` and slot `s` is the model's. -/
theorem lane_eq (P : Fin 2048 → Fin 16 → EReal) (n : Fin 2048) (e : Fin 16) (s : Fin 160) (l : Fin 2560)
    (hl : l.val = e.val * 160 + s.val) : lane P n l = combine P n e s := by
  unfold lane combine
  rw [lanePart_eq _ _ _ e s l hl, lanePart_eq _ _ _ e s l hl]

end TopTwo

namespace Cert.KernelIdeal.Spread

open Cert.KernelIdeal Cert.KernelIdeal.Gen Cert.KernelIdeal.Gate Idealize.ShloMosaic Idealize.ShloMosaic.TcCoe Idealize.SL.Sem TopTwo

variable (P : Fin 2048 → Fin 16 → EReal) (n : Fin 2048)
variable (x0 : Vec Ideal S1x1x512x8 .f32) (x1 : Vec Ideal S1x1x16 .f32) (r : Fin 512)
variable (h0 : ∀ e : Fin 8, x0 (ix4 0 0 r e) = metaAt P n e)
variable (h1 : ∀ e : Fin 16, x1 (ix3 0 0 e) = ((TopTwo.count (e1 P) e : ℕ) : EReal))

include h0 h1 in
/-- The slot at the second choice. -/
theorem pay6_at : k1_pay6 (F := Ideal) x0 x1 (ix2 r 0) = ((pos2 P n : ℕ) : EReal) := by
  pointwise [k1_pay6, k1_pay5, k1_pay4]
  have c4 : x0 (ix4 0 0 r 4) = ((rank (e2 P) n : ℕ) : EReal) := h0 4
  have c3 : x0 (ix4 0 0 r 3) = (((e2 P n).val : ℕ) : EReal) := h0 3
  rw [c4, c3]
  have hs : ∀ x : Fin 16, (FloatOps.sitofp .f32 (BitVec.setWidth 32 (BitVec.ofBool (decide ((FloatOps.sitofp .f32 (BitVec.ofNat 32 x.val) : Ideal .f32)
        = (((e2 P n).val : ℕ) : EReal))))) : Ideal .f32) * min (x1 (ix3 0 0 x)) (Ideal.ofBits .f32 1126170624#32)
      = min ((TopTwo.count (e1 P) x : ℕ) : EReal) ((160 : ℕ) : EReal) * ind (x = e2 P n) := fun x => by
    rw [sitofp_bit _ _ rfl, h1 x, ofBits_160, mul_comm]
    refine Ideal.mul_congr rfl ?_
    unfold ind
    refine if_congr ?_ rfl rfl
    rw [sitofp_ofNat _ (by omega), natural_inj, Fin.ext_iff]
  rw [Finset.sum_congr rfl fun x _ => hs x, sum_mul_ind fun x => min ((TopTwo.count (e1 P) x : ℕ) : EReal) ((160 : ℕ) : EReal)]
  unfold pos2
  rw [Nat.cast_add, natural_min]

include h0 h1 in
theorem pay7_at : k1_pay7 (F := Ideal) x0 x1 (ix2 r 0) = w2 P n * ind (pos2 P n < 160) := by
  pointwise [k1_pay7, k1_pay4]
  have c5 : x0 (ix4 0 0 r 5) = w2 P n := h0 5
  rw [c5, sitofp_bit _ _ rfl, pay6_at P n x0 x1 r h0 h1, ofBits_160]
  refine Ideal.mul_congr rfl ?_
  unfold ind
  exact if_congr (natural_lt _ _) rfl rfl

include h0 in
theorem pay9_at (l : Fin 2560) : k1_pay9 (F := Ideal) x0 (ix2 r l) = lanePart (e1 P n) (pos1 P n) (w1 P n) l := by
  pointwise [k1_pay9, k1_pay8, k1_pay4]
  have c0 : x0 (ix4 0 0 r 0) = (((e1 P n).val : ℕ) : EReal) := h0 0
  have c1 : x0 (ix4 0 0 r 1) = ((pos1 P n : ℕ) : EReal) := h0 1
  have c2 : x0 (ix4 0 0 r 2) = w1 P n * ind (pos1 P n < 160) := h0 2
  rw [c0, c1, c2, ofBits_160, cast_lane, sitofp_ofNat _ (by omega)]
  rfl

include h0 h1 in
theorem pay1_at (l : Fin 2560) :
    k1_pay1 (F := Ideal) (k1_pay7 x0 x1) (k1_pay9 x0) (k1_pay10 x0 x1) (Scalar.ofBits .f32 0x00000000#32) (ix2 r l) = lane P n l := by
  pointwise [k1_pay1, k1_pay10, k1_pay8, k1_pay5, k1_pay4]
  have c3 : x0 (ix4 0 0 r 3) = (((e2 P n).val : ℕ) : EReal) := h0 3
  rw [c3, pay6_at P n x0 x1 r h0 h1, pay7_at P n x0 x1 r h0 h1, pay9_at P n x0 r h0, ofBits_160, cast_lane, sitofp_ofNat _ (by omega)]
  rfl

include h0 h1 in
theorem comb_at (l : Fin 2560) :
    k1_pay2 (F := Ideal) (k1_pay7 x0 x1) (k1_pay9 x0) (k1_pay10 x0 x1) (Scalar.ofBits .f32 0x00000000#32) (ix3 0 r l) = lane P n l := by
  rw [← pay1_at P n x0 x1 r h0 h1 l]
  pointwise [k1_pay2]

include h0 h1 in
theorem disp_at (l : Fin 2560) :
    k1_pay3 (F := Ideal) (k1_pay7 x0 x1) (k1_pay9 x0) (k1_pay10 x0 x1) (Scalar.ofBits .f32 0x00000000#32) (ix3 0 r l)
      = ind (lane P n l ≠ 0) := by
  rw [← pay1_at P n x0 x1 r h0 h1 l]
  pointwise [k1_pay3]
  exact sitofp_bit _ _ rfl

end Cert.KernelIdeal.Spread

end
-- ==== Proof.SpreadArrays.lean ====
/-
  WHAT THE SPREADING STEP'S TWO ARRAYS HOLD, given what the gate step's arrays hold.
-/
module

public import proofs.«01_k».proof.Proof.Gen.KernelIdeal.Frame
public import proofs.«01_k».proof.Proof.SpreadBlock
public import Idealize.ShloMosaic.Lib.Pipeline.ValueKit

@[expose] public section

set_option maxRecDepth 16384

noncomputable section

namespace Cert.KernelIdeal.Spread

open Cert.KernelIdeal Cert.KernelIdeal.Gen Cert.KernelIdeal.Gate Idealize.ShloMosaic Idealize.ShloMosaic.TcCoe Idealize.SL.Sem TopTwo

/-- Where each point's blocks lie: four points of 512 tokens for each batch row. -/
theorem idx : ∀ t : Fin cfg1.N, win1_0.index t = ![t.val / 4, 0, t.val % 4, 0] ∧ win1_1.index t = ![t.val / 4, 0, 0]
    ∧ win1_2.index t = ![t.val / 4, t.val % 4, 0] ∧ win1_3.index t = ![t.val / 4, t.val % 4, 0] :=
  (by decide +kernel : ∀ t : Fin grid1.N, _)

variable (V : (c : Dev nD) → (b : Ref sig .tc) → Buf (Elt Ideal) ((c : Thread nD τ).loc b)) (c : Dev nD)
variable (P : Fin 4 → Fin 2048 → Fin 16 → EReal)
variable (hM : (V c main_call0_v4_0 : Vec Ideal S4x1x2048x8 .f32) = fun i => metaAt (P (i 0)) (i 2) (i 3))
variable (hC : (V c main_call0_v4_1 : Vec Ideal S4x1x16 .f32) = fun i => ((TopTwo.count (e1 (P (i 0))) (i 2) : ℕ) : EReal))

include hM in
/-- A point's rows of the table. -/
theorem meta_block (t : Fin cfg1.N) (b : Fin 4) (n : Fin 2048) (r : Fin 512) (hb : b.val = t.val / 4) (hn : n.val = t.val % 4 * 512 + r.val)
    (e : Fin 8) : (iblk1 V c 0 t : Vec Ideal S1x1x512x8 .f32) (ix4 0 0 r e) = metaAt (P b) n e := by
  refine Eq.trans ?_ (congrFun hM (ix4 b 0 n e))
  blk_ext [iblk1, idx t]

include hC in
/-- A point's counts. -/
theorem counts_block (t : Fin cfg1.N) (b : Fin 4) (hb : b.val = t.val / 4) (e : Fin 16) :
    (iblk1 V c 1 t : Vec Ideal S1x1x16 .f32) (ix3 0 0 e) = ((TopTwo.count (e1 (P b)) e : ℕ) : EReal) := by
  refine Eq.trans ?_ (congrFun hC (ix3 b 0 e))
  blk_ext [iblk1, idx t]

/-- The spreading step reads its blocks whole. -/
theorem ld_table (x0 : Vec Ideal S1x1x512x8 .f32) : View.ld x0 r1_0 = x0 :=
  View.ld_unit_zero (by funext a; fin_cases a <;> rfl) _ x0
theorem ld_counts (x1 : Vec Ideal S1x1x16 .f32) : View.ld x1 r1_1 = x1 :=
  View.ld_unit_zero (by funext a; fin_cases a <;> rfl) _ x1

include hM hC in
/-- A point's weights, read where its block lies in the array. -/
theorem comb_point (t : Fin cfg1.N) (y : S1x512x2560.Idx) (i : S4x2048x2560.Idx) (h0 : (i 0 : ℕ) = t.val / 4)
    (h1 : (i 1 : ℕ) = t.val % 4 * 512 + y 1) (h2 : (i 2 : ℕ) = y 2) :
    k1_pay2 (F := Ideal) (k1_pay11 (iblk1 V c 0 t) (iblk1 V c 1 t)) (k1_pay12 (iblk1 V c 0 t) (iblk1 V c 1 t))
      (k1_pay13 (iblk1 V c 0 t) (iblk1 V c 1 t)) (FloatOps.ofBits FTy.f32 0#32) y
    = lane (P (i 0)) (i 1) (i 2) := by
  have hy : y = ix3 0 (y 1) (y 2) := by idx_ext
  have e2 : (i 2 : Fin 2560) = y 2 := Fin.ext h2
  rw [e2]
  unfold k1_pay11 k1_pay12 k1_pay13
  rw [ld_table, ld_counts]
  exact (congrArg _ hy).trans (comb_at (P (i 0)) (i 1) _ _ (y 1) (meta_block V c P hM t (i 0) (i 1) (y 1) h0 h1)
    (counts_block V c P hC t (i 0) h0) (y 2))

include hM hC in
/-- The array of weights. -/
theorem comb_array : (dat1 V c).arrAt 2 cfg1.N = (fun i => lane (P (i 0)) (i 1) (i 2) : Vec Ideal S4x2048x2560 .f32) := by
  refine (dat1 V c).arrAt_eq_of_covers 2 _ (by decide +kernel) fun t _ y => ?_
  blk_simp
  rw [after1_2]
  frame_out
  refine comb_point V c P hM hC t y _ ?_ ?_ ?_
  all_goals (blk_simp [idx t] <;> try omega)

include hM hC in
/-- Which of a point's weights are not zero, read where its block lies in the array. -/
theorem disp_point (t : Fin cfg1.N) (y : S1x512x2560.Idx) (i : S4x2048x2560.Idx) (h0 : (i 0 : ℕ) = t.val / 4)
    (h1 : (i 1 : ℕ) = t.val % 4 * 512 + y 1) (h2 : (i 2 : ℕ) = y 2) :
    k1_pay3 (F := Ideal) (k1_pay11 (iblk1 V c 0 t) (iblk1 V c 1 t)) (k1_pay12 (iblk1 V c 0 t) (iblk1 V c 1 t))
      (k1_pay13 (iblk1 V c 0 t) (iblk1 V c 1 t)) (FloatOps.ofBits FTy.f32 0#32) y
    = ind (lane (P (i 0)) (i 1) (i 2) ≠ 0) := by
  have hy : y = ix3 0 (y 1) (y 2) := by idx_ext
  have e2 : (i 2 : Fin 2560) = y 2 := Fin.ext h2
  rw [e2]
  unfold k1_pay11 k1_pay12 k1_pay13
  rw [ld_table, ld_counts]
  exact (congrArg _ hy).trans (disp_at (P (i 0)) (i 1) _ _ (y 1) (meta_block V c P hM t (i 0) (i 1) (y 1) h0 h1)
    (counts_block V c P hC t (i 0) h0) (y 2))

include hM hC in
/-- The array of which weights are not zero. -/
theorem disp_array : (dat1 V c).arrAt 3 cfg1.N = (fun i => ind (lane (P (i 0)) (i 1) (i 2) ≠ 0) : Vec Ideal S4x2048x2560 .f32) := by
  refine (dat1 V c).arrAt_eq_of_covers 3 _ (by decide +kernel) fun t _ y => ?_
  blk_simp
  rw [after1_3]
  frame_out
  refine disp_point V c P hM hC t y _ ?_ ?_ ?_
  all_goals (blk_simp [idx t] <;> try omega)

end Cert.KernelIdeal.Spread

end
-- ==== Proof.KernelValue.lean ====
/-
  THE KERNEL'S THREE RESULTS, over the extended reals: the model's dispatch and combine tensors and the loss.
-/
module

public import proofs.«01_k».proof.Proof.KernelRun
public import proofs.«01_k».proof.Proof.GateArrays
public import proofs.«01_k».proof.Proof.SpreadArrays

@[expose] public section

set_option maxRecDepth 16384

noncomputable section

namespace Cert.KernelIdeal.Whole

open Cert.KernelIdeal Cert.KernelIdeal.Gen Cert.KernelIdeal.Gate Cert.KernelIdeal.Spread
open Idealize.ShloMosaic Idealize.ShloMosaic.TcCoe Idealize.SL.Sem TopTwo

variable (m : (ℓ : Loc nD τ sig) → Buf (Elt Ideal) ℓ) (ρ : Dev nD → PrngReg) (c : Dev nD)

/-- The gate probabilities of batch row `b` on core `c`. -/
abbrev row (b : Fin 4) : Fin 2048 → Fin 16 → EReal :=
  batch (m ((c : Thread nD τ).loc main_arg0)) (m ((c : Thread nD τ).loc main_arg1)) b

/-- The gate step finds the strict lower triangle of ones. -/
theorem triangle_entry (i j : Fin 2048) : (V1 m ρ c main_call0_v3 : Vec Ideal S2048x2048 .bf16) (ix2 i j) = ind (j < i) := by
  refine (congrFun (tri_at m ρ c) (ix2 i j)).trans ?_
  pointwise
  exact uitofp_bit _ _ (cmpi_triangle i j)

theorem table_entry : (V2 m ρ c main_call0_v4_0 : Vec Ideal S4x1x2048x8 .f32) = fun i => metaAt (row m c (i 0)) (i 2) (i 3) := by
  refine (V2_meta m ρ c).trans ((meta_array (V1 m ρ) c (triangle_entry m ρ c)).trans ?_)
  rw [V1_arg0, V1_arg1]
  rfl

theorem counts_entry : (V2 m ρ c main_call0_v4_1 : Vec Ideal S4x1x16 .f32)
    = fun i => ((TopTwo.count (e1 (row m c (i 0))) (i 2) : ℕ) : EReal) := by
  refine (V2_counts m ρ c).trans ((counts_array (V1 m ρ) c).trans ?_)
  rw [V1_arg0, V1_arg1]
  rfl

/-- The kernel's dispatch tensor. -/
theorem dispatch_value (b : Fin 4) (n : Fin 2048) (e : Fin 16) (s : Fin 160) :
    (W4 m ρ c (Proc.devRef .tc main_v0_0) : Vec Ideal S4x2048x16x160 .f32) (ix4 b n e s) = dispatch (row m c b) n e s := by
  have h := disp_array (V2 m ρ) c (row m c) (table_entry m ρ c) (counts_entry m ρ c)
  rw [dispatch_at, h]
  pointwise
  unfold dispatch ind
  exact if_congr (by rw [lane_eq (row m c b) n e s _ rfl]) rfl rfl

/-- The kernel's combine tensor. -/
theorem combine_value (b : Fin 4) (n : Fin 2048) (e : Fin 16) (s : Fin 160) :
    (W4 m ρ c (Proc.devRef .tc main_v0_1) : Vec Ideal S4x2048x16x160 .f32) (ix4 b n e s) = combine (row m c b) n e s := by
  have h := comb_array (V2 m ρ) c (row m c) (table_entry m ρ c) (counts_entry m ρ c)
  rw [combine_at, h]
  pointwise
  exact lane_eq (row m c b) n e s _ rfl

/-- The kernel's loss. -/
theorem loss_value : (W4 m ρ c (Proc.devRef .tc main_v0_2) : Vec Ideal S_ .f32)
    = fun _ => ∑ b : Fin 4, lossPart (row m c b) * Ideal.ofBits .f32 0x35800000#32 := by
  have h := loss_array (V1 m ρ) c
  rw [V1_arg0, V1_arg1] at h
  rw [loss_at, h]
  funext j
  pointwise
  exact Finset.sum_congr rfl fun b _ => by rw [Fin.sum_univ_one, Fin.sum_univ_one]

end Cert.KernelIdeal.Whole

end
-- ==== Proof.RefRun.lean ====
/-
  THE REFERENCE'S RUN. The reference is a straight line of host operations. Its values are written here as functions of the
  tokens and the gating weights, with one function for what it does to both choices; then the line is run, and the three
  results are read off it.
-/
module

public import proofs.«01_k».proof.Proof.Gen.ReferenceIdeal
public import Idealize.ShloMosaic.Lib.StableHlo.RunHlo
public import Idealize.ShloMosaic.Lib.StableHlo.RunRead

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## What the reference does, by arrays -/

/-- A number for each token, repeated over the experts. -/
abbrev overExperts {α : Type} (x : S4x2048.Idx → α) : S4x2048x16.Idx → α :=
  broadcastInDim S4x2048x16 ![0, 1, 2] bcast_S4x2048x1_S4x2048x16_0_1_2 (broadcastInDim S4x2048x1 ![0, 1] bcast_S4x2048_S4x2048x1_0_1 x)

/-- Each token's sum over the experts. -/
abbrev sumExperts (x : FVec F S4x2048x16 .f32) : FVec F S4x2048 .f32 :=
  Host.reduceAdd x (constant S_ .f32 0x00000000#32) reducesTo_S4x2048x16_S4x2048_d2 h_S_

/-- Each expert's sum over the tokens. -/
abbrev sumTokens (x : FVec F S4x2048x16 .f32) : FVec F S4x16 .f32 :=
  Host.reduceAdd x (constant S_ .f32 0x00000000#32) reducesTo_S4x2048x16_S4x16_d1 h_S_

/-- Each token's largest entry. -/
def largest (x : FVec F S4x2048x16 .f32) : FVec F S4x2048 .f32 :=
  Host.reduce FloatOps.maximumf x (constant S_ .f32 0xFF800000#32) reducesTo_S4x2048x16_S4x2048_d2 h_S_

/-- The expert of each token's largest entry: the second part of a fold over pairs of an entry and its place. -/
def chosen (x : FVec F S4x2048x16 .f32) : IVec S4x2048 32 := fun j =>
  (Host.argReduce reducer_argmax_f32_i32 x (iotaInDim S4x2048x16 32 2) (constant S_ .f32 0xFF800000#32) (constantI S_ 32 0#32)
    reducesTo_S4x2048x16_S4x2048_d2 h_S_ j).2

/-- A choice as a mask of ones and zeros over the experts. -/
def maskOf (i : IVec S4x2048 32) : FVec F S4x2048x16 .f32 :=
  uitofp .f32 (cmpi .eq (overExperts i) (broadcastInDim S4x2048x16 ![0, 1, 2] bcast_S1x1x16_S4x2048x16_0_1_2 (iotaInDim S1x1x16 32 2)))

/-- The running sum along the tokens, the token itself included. -/
def runningSum (x : FVec F S4x2048x16 .f32) : FVec F S4x2048x16 .f32 :=
  Host.reduceWindowAdd ![1, 2048, 1] ![1, 1, 1] ![0, 2047, 0] ![0, 0, 0] x (broadcastInDim S_ ![] bcast_S_S_ (constant S_ .f32 0x00000000#32))
    reduceWindows_S4x2048x16_S4x2048x16_w1s1p0_0_w2048s1p2047_0_w1s1p0_0 h_S_

/-- A mask `m` without the tokens whose slot `s` is past the capacity. -/
def within (m s : FVec F S4x2048x16 .f32) : FVec F S4x2048x16 .f32 :=
  mulf m (uitofp .f32 (cmpf .olt s (broadcastInDim S4x2048x16 ![] bcast_S_S4x2048x16 (constant S_ .f32 0x43200000#32))))

/-- A choice's slot as a mask over the 160 slots. -/
def slotMask (s : FVec F S4x2048x16 .f32) : FVec F S4x2048x160 .f32 :=
  uitofp .f32 (cmpi .eq
    (broadcastInDim S4x2048x160 ![0, 1, 2] bcast_S4x2048x1_S4x2048x160_0_1_2
      (broadcastInDim S4x2048x1 ![0, 1] bcast_S4x2048_S4x2048x1_0_1 (fptosi 32 (sumExperts s))))
    (broadcastInDim S4x2048x160 ![0, 1, 2] bcast_S1x1x160_S4x2048x160_0_1_2 (iotaInDim S1x1x160 32 2)))

/-- A choice's share of the combine tensor, from its probability `g`, the divisor `d`, whether it is kept `k`, its expert `i`
    and its slot `s`. -/
def share (g d k : FVec F S4x2048 .f32) (i : IVec S4x2048 32) (s : FVec F S4x2048x16 .f32) : FVec F S4x2048x16x160 .f32 :=
  mulf
    (broadcastInDim S4x2048x16x160 ![0, 1, 2, 3] bcast_S4x2048x16x1_S4x2048x16x160_0_1_2_3
      (mulf
        (broadcastInDim S4x2048x16x1 ![0, 1, 2, 3] bcast_S4x2048x1x1_S4x2048x16x1_0_1_2_3
          (mulf (broadcastInDim S4x2048x1x1 ![0, 1] bcast_S4x2048_S4x2048x1x1_0_1 (mulf (Host.divf g d) k))
            (broadcastInDim S4x2048x1x1 ![0, 1] bcast_S4x2048_S4x2048x1x1_0_1 k)))
        (broadcastInDim S4x2048x16x1 ![0, 1, 2] bcast_S4x2048x16_S4x2048x16x1_0_1_2 (maskOf i))))
    (broadcastInDim S4x2048x16x160 ![0, 1, 2, 3] bcast_S4x2048x1x160_S4x2048x16x160_0_1_2_3
      (broadcastInDim S4x2048x1x160 ![0, 1, 3] bcast_S4x2048x160_S4x2048x1x160_0_1_3 (slotMask s)))

/-- The mean over the tokens. -/
def tokenMean (x : FVec F S4x2048x16 .f32) : FVec F S4x16 .f32 :=
  Host.divf (sumTokens x) (broadcastInDim S4x16 ![] bcast_S_S4x16 (constant S_ .f32 0x45000000#32))

/-! ## The reference's values, from the contents that the arguments start with -/

section

variable (V : Valuation τ sig (Elt F))

/-- The products of the tokens with the gating weights. -/
def products : FVec F S4x2048x16 .f32 :=
  Host.dotGeneral dot_S4x2048x1024_S1024x16_S4x2048x16_2_0_01_1_n_n none
    (V (Proc.devRef .tc main_arg0) : FVec F S4x2048x1024 .f32) (V (Proc.devRef .tc main_arg1) : FVec F S1024x16 .f32)

/-- Each token's largest product. -/
def peak : FVec F S4x2048 .f32 :=
  maximumf (broadcastInDim S4x2048 ![] bcast_S_S4x2048 (constant S_ .f32 0xFF800000#32)) (largest (products V))

/-- The exponentials of the products less the largest. -/
def raised : FVec F S4x2048x16 .f32 := Host.exp (subf (products V) (overExperts (peak V)))

/-- The gate probabilities. -/
def softmaxed : FVec F S4x2048x16 .f32 := Host.divf (raised V) (overExperts (sumExperts (raised V)))

/-- The first choice, its probability and its mask. -/
def first : IVec S4x2048 32 := chosen (softmaxed V)
def firstGate : FVec F S4x2048 .f32 := largest (softmaxed V)
def firstMask : FVec F S4x2048x16 .f32 := maskOf (first V)

/-- The probabilities with the first choice struck out. -/
def struck : FVec F S4x2048x16 .f32 :=
  mulf (softmaxed V) (subf (broadcastInDim S4x2048x16 ![] bcast_S_S4x2048x16 (constant S_ .f32 0x3F800000#32)) (firstMask V))

/-- The second choice, its probability and its mask. -/
def second : IVec S4x2048 32 := chosen (struck V)
def secondGate : FVec F S4x2048 .f32 := largest (struck V)
def secondMask : FVec F S4x2048x16 .f32 := maskOf (second V)

/-- What the two probabilities are divided by. -/
def divisor : FVec F S4x2048 .f32 :=
  addf (addf (firstGate V) (secondGate V)) (broadcastInDim S4x2048 ![] bcast_S_S4x2048 (constant S_ .f32 0x3089705F#32))

/-- The first choice's slot, in its own column; the mask of the kept first choices; whether a token's first choice is kept. -/
def firstSlot : FVec F S4x2048x16 .f32 := mulf (subf (runningSum (firstMask V)) (firstMask V)) (firstMask V)
def firstKept : FVec F S4x2048x16 .f32 := within (firstMask V) (firstSlot V)
def firstStays : FVec F S4x2048 .f32 := sumExperts (firstKept V)

/-- The slots that the kept first choices take at each expert. -/
def occupied : FVec F S4x2048x16 .f32 :=
  broadcastInDim S4x2048x16 ![0, 1, 2] bcast_S4x1x16_S4x2048x16_0_1_2
    (broadcastInDim S4x1x16 ![0, 2] bcast_S4x16_S4x1x16_0_2 (sumTokens (firstKept V)))

/-- The second choice's slot, in its own column; whether a token's second choice is kept. -/
def secondSlot : FVec F S4x2048x16 .f32 :=
  mulf (addf (subf (runningSum (secondMask V)) (secondMask V)) (occupied V)) (secondMask V)
def secondStays : FVec F S4x2048 .f32 := sumExperts (within (secondMask V) (secondSlot V))

/-- The two choices' shares of the combine tensor. -/
def firstShare : FVec F S4x2048x16x160 .f32 := share (firstGate V) (divisor V) (firstStays V) (first V) (firstSlot V)
def secondShare : FVec F S4x2048x16x160 .f32 := share (secondGate V) (divisor V) (secondStays V) (second V) (secondSlot V)

/-- The three results: the combine tensor, the dispatch tensor, the loss. -/
def combined : FVec F S4x2048x16x160 .f32 := addf (firstShare V) (secondShare V)
def dispatched : FVec F S4x2048x16x160 .f32 :=
  uitofp .f32 (cmpf .une (combined V) (broadcastInDim S4x2048x16x160 ![] bcast_S_S4x2048x16x160 (constant S_ .f32 0x00000000#32)))
def balance : FVec F S_ .f32 :=
  mulf
    (Host.divf
      (Host.reduceAdd (mulf (tokenMean (softmaxed V)) (tokenMean (firstMask V))) (constant S_ .f32 0x00000000#32) reducesTo_S4x16_S_d0_1 h_S_)
      (constant S_ .f32 0x42800000#32))
    (constant S_ .f32 0x43800000#32)

end

/-! ## The run -/

/-- The reference's operations in order, read off the program. -/
def line : { l : List (HloOp τ sig (Elt F)) // ∀ c : Dev nD, IsSeq (main (F := F) c) l } := by
  apply Subtype.mk
  hlo_seq

section

variable (V : Valuation τ sig (Elt F))

set_option maxHeartbeats 4000000 in
/-- The line leaves the combine tensor in its result. -/
theorem line_combined : after (line (F := F)).1 V (Proc.devRef .tc main_v86) = combined V := by
  after_reads_simp
  simp only [TRef.toBuf, TRef.ofBuf, cast_eq]
  rfl

set_option maxHeartbeats 4000000 in
/-- The line leaves the dispatch tensor in its result. -/
theorem line_dispatched : after (line (F := F)).1 V (Proc.devRef .tc main_v89) = dispatched V := by
  after_reads_simp
  simp only [TRef.toBuf, TRef.ofBuf, cast_eq]
  rfl

set_option maxHeartbeats 4000000 in
/-- The line leaves the loss in its result. -/
theorem line_balance : after (line (F := F)).1 V (Proc.devRef .tc main_v35) = balance V := by
  after_reads_simp
  simp only [TRef.toBuf, TRef.ofBuf, cast_eq]
  rfl

/-- The line leaves the arguments as they were. -/
theorem line_arg0 : after (line (F := F)).1 V (Proc.devRef .tc main_arg0) = V (Proc.devRef .tc main_arg0) := by
  after_reads_simp
theorem line_arg1 : after (line (F := F)).1 V (Proc.devRef .tc main_arg1) = V (Proc.devRef .tc main_arg1) := by
  after_reads_simp

end

/-- Every operation of the line works on the core's own buffers. -/
theorem line_bufs : (line (F := F)).1.Forall fun op => op.bufs ⊆ tcRefs τ sig := by
  unfold line
  simp

/-- THE RUN: every weakly fair execution of the reference ends with the three results as above and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = dispatched (launchContents m c)
      ∧ r.2.mem ((c.tc : Thread nD τ).loc main_v86) = combined (launchContents m c)
      ∧ r.2.mem ((c.tc : Thread nD τ).loc main_v35) = balance (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (run_hlo defs main line.2 (by decide) (by decide) line_bufs
      (List.forall_iff_forall_mem.mp (forall_fresh_of_map rfl)) m ρ)
    fun _ h c => ⟨(h c main_v89).trans (line_dispatched _), (h c main_v86).trans (line_combined _),
      (h c main_v35).trans (line_balance _), (h c main_arg0).trans (line_arg0 _), (h c main_arg1).trans (line_arg1 _)⟩

end Cert.ReferenceIdeal.Value

end
-- ==== Proof.RefScan.lean ====
/-
  THE REFERENCE'S TWO UNUSUAL OPERATIONS, read at an index over the extended reals: the running sum along the tokens, and
  the place of the largest of a row of sixteen.
-/
module

public import proofs.«01_k».proof.Proof.RefRun
public import proofs.«01_k».proof.Proof.Model
public import Idealize.ShloMosaic.Lib.Pointwise

@[expose] public section

set_option maxRecDepth 16384

noncomputable section

namespace TopTwo

/-- A left fold of additions is the sum. -/
theorem foldl_add {ι : Type} (g : ι → EReal) : ∀ (l : List ι) (v : EReal), l.foldl (fun r i => r + g i) v = v + (l.map g).sum
  | [], v => by simp
  | i :: l, v => by rw [List.foldl_cons, foldl_add g l, List.map_cons, List.sum_cons, add_assoc]

/-- A window of the last `n + 1` of 2048 places, padded below: the sum up to place `n`. -/
theorem sum_window (n : Fin 2048) (G : ℕ → EReal) :
    (∑ w : Fin 2048, if 2047 ≤ n.val + w.val then G (n.val + w.val - 2047) else 0) = ∑ k : Fin 2048, if k ≤ n then G k.val else 0 := by
  rw [← Finset.sum_filter, ← Finset.sum_filter]
  refine Finset.sum_bij' (fun w hw => ⟨n.val + w.val - 2047, by omega⟩)
    (fun k hk => ⟨k.val + 2047 - n.val, by have : k.val ≤ n.val := (Finset.mem_filter.1 hk).2; omega⟩) ?_ ?_ ?_ ?_ ?_
  · intro w hw
    have : 2047 ≤ n.val + w.val := (Finset.mem_filter.1 hw).2
    exact Finset.mem_filter.2 ⟨Finset.mem_univ _, by show n.val + w.val - 2047 ≤ n.val; omega⟩
  · intro k hk
    have : k.val ≤ n.val := (Finset.mem_filter.1 hk).2
    exact Finset.mem_filter.2 ⟨Finset.mem_univ _, by show 2047 ≤ n.val + (k.val + 2047 - n.val); omega⟩
  · intro w hw
    have : 2047 ≤ n.val + w.val := (Finset.mem_filter.1 hw).2
    exact Fin.ext (by show n.val + w.val - 2047 + 2047 - n.val = w.val; omega)
  · intro k hk
    have : k.val ≤ n.val := (Finset.mem_filter.1 hk).2
    exact Fin.ext (by show n.val + (k.val + 2047 - n.val) - 2047 = k.val; omega)
  · intro w hw
    rfl

end TopTwo

namespace Cert.ReferenceIdeal.Value

open Cert.ReferenceIdeal Cert.ReferenceIdeal.Gen Idealize.ShloMosaic Idealize.ShloMosaic.TcCoe Idealize.SL.Sem TopTwo

/-- The running sum along the tokens. -/
theorem scan_at (x : FVec Ideal S4x2048x16 .f32) (b : Fin 4) (n : Fin 2048) (e : Fin 16) :
    runningSum x (ix3 b n e)
    = ∑ k : Fin 2048, if k ≤ n then x (ix3 b k e) else 0 := by
  unfold runningSum
  have hz : ∀ i, (broadcastInDim S_ ![] bcast_S_S_ (constant S_ .f32 0x00000000#32) : FVec Ideal S_ .f32) i = 0 := fun i => by pointwise
  generalize (broadcastInDim S_ ![] bcast_S_S_ (constant S_ .f32 0x00000000#32) : FVec Ideal S_ .f32) = z at hz ⊢
  let W : Shape := ⟨3, ![1, 2048, 1]⟩
  let G : ℕ → EReal := fun k => if h : k < 2048 then x (ix3 b ⟨k, h⟩ e) else 0
  have hG : ∀ k : Fin 2048, x (ix3 b k e) = G k.val := fun k =>
    (dif_pos (t := fun h : k.val < 2048 => x (ix3 b ⟨k.val, h⟩ e)) k.isLt).symm
  let g : W.Idx → EReal := fun w => if 2047 ≤ n.val + (w 1).val then G (n.val + (w 1).val - 2047) else 0
  have hfold : Host.reduceWindowAdd ![1, 2048, 1] ![1, 1, 1] ![0, 2047, 0] ![0, 0, 0] x z
      reduceWindows_S4x2048x16_S4x2048x16_w1s1p0_0_w2048s1p2047_0_w1s1p0_0 h_S_ (ix3 b n e)
      = (List.finRange W.numel).foldl (fun r i => r + g (W.rowMajor.symm i)) (z (Shape.Idx.first h_S_)) := by
    unfold Host.reduceWindowAdd
    rw [Ideal.hostReduceWindowAdd_def]
    unfold Ideal.hostReduceWindowAdd Host.reduceWindow
    dsimp only
    refine congrArg (fun f => List.foldl f (z (Shape.Idx.first h_S_)) (List.finRange W.numel)) (funext fun r => funext fun i => congrArg (r + ·) ?_)
    have w0 : (W.rowMajor.symm i 0).val = 0 := Nat.lt_one_iff.1 (W.rowMajor.symm i 0).isLt
    have w1 : (W.rowMajor.symm i 1).val < 2048 := (W.rowMajor.symm i 1).isLt
    have w2 : (W.rowMajor.symm i 2).val = 0 := Nat.lt_one_iff.1 (W.rowMajor.symm i 2).isLt
    show _ = if 2047 ≤ n.val + (W.rowMajor.symm i 1).val then G (n.val + (W.rowMajor.symm i 1).val - 2047) else 0
    split
    · next hin =>
      have h1 : 2047 ≤ n.val * 1 + (W.rowMajor.symm i 1).val ∧ n.val * 1 + (W.rowMajor.symm i 1).val - 2047 < 2048 := hin 1
      have hlt : n.val + (W.rowMajor.symm i 1).val - 2047 < 2048 := by omega
      rw [if_pos (by omega)]
      refine Eq.trans (b := x (ix3 b ⟨n.val + (W.rowMajor.symm i 1).val - 2047, hlt⟩ e)) (congrArg x (funext fun a => Fin.ext ?_))
        (hG ⟨_, hlt⟩)
      match a with
      | ⟨0, _⟩ => show b.val * 1 + (W.rowMajor.symm i 0).val - 0 = b.val; omega
      | ⟨1, _⟩ => show n.val * 1 + (W.rowMajor.symm i 1).val - 2047 = n.val + (W.rowMajor.symm i 1).val - 2047; omega
      | ⟨2, _⟩ => show e.val * 1 + (W.rowMajor.symm i 2).val - 0 = e.val; omega
    · next hin =>
      rw [if_neg fun hle => hin fun a => ?_, hz]
      match a with
      | ⟨0, _⟩ => show 0 ≤ b.val * 1 + (W.rowMajor.symm i 0).val ∧ b.val * 1 + (W.rowMajor.symm i 0).val - 0 < 4; omega
      | ⟨1, _⟩ => show 2047 ≤ n.val * 1 + (W.rowMajor.symm i 1).val ∧ n.val * 1 + (W.rowMajor.symm i 1).val - 2047 < 2048; omega
      | ⟨2, _⟩ => show 0 ≤ e.val * 1 + (W.rowMajor.symm i 2).val ∧ e.val * 1 + (W.rowMajor.symm i 2).val - 0 < 16; omega
  rw [hfold, foldl_add (fun i => g (W.rowMajor.symm i)), hz, zero_add, ← List.ofFn_eq_map, List.sum_ofFn, Equiv.sum_comp W.rowMajor.symm g, sum_idx3,
    Fin.sum_univ_one]
  refine (Finset.sum_congr rfl fun w _ => Fin.sum_univ_one _).trans ?_
  refine (sum_window n G).trans (Finset.sum_congr rfl fun k _ => ?_)
  rw [hG]

/-- The comparison of two pairs keeps the better one. -/
theorem reducer_beats (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  rcases lt_trichotomy x y with h | h | h
  · have hr : reducer_argmax_f32_i32 (F := Ideal) (x, i) (y, j) = (y, j) := by
      simp [reducer_argmax_f32_i32, Ideal.cmpf_def, Ideal.cmp, Scalar.select, IntOp.ori, IntOp.andi, h, h.ne, h.not_gt]
    rw [hr]
    exact ⟨.inr rfl, .inl h, Beats.refl _⟩
  · subst h
    by_cases hij : i.slt j
    · have hr : reducer_argmax_f32_i32 (F := Ideal) (x, i) (x, j) = (x, i) := by
        simp [reducer_argmax_f32_i32, Ideal.cmpf_def, Ideal.cmp, Scalar.select, IntOp.ori, IntOp.andi, IntOp.cmpi, hij]
      rw [hr]
      exact ⟨.inl rfl, Beats.refl _, .inr ⟨rfl, (BitVec.slt_iff_toInt_lt.1 hij).le⟩⟩
    · have hr : reducer_argmax_f32_i32 (F := Ideal) (x, i) (x, j) = (x, j) := by
        simp [reducer_argmax_f32_i32, Ideal.cmpf_def, Ideal.cmp, Scalar.select, IntOp.ori, IntOp.andi, IntOp.cmpi, hij]
      rw [hr]
      exact ⟨.inr rfl, .inr ⟨rfl, not_lt.1 fun hlt => hij (BitVec.slt_iff_toInt_lt.2 hlt)⟩, Beats.refl _⟩
  · have hr : reducer_argmax_f32_i32 (F := Ideal) (x, i) (y, j) = (x, i) := by
      simp [reducer_argmax_f32_i32, Ideal.cmpf_def, Ideal.cmp, Scalar.select, IntOp.ori, IntOp.andi, h, h.ne', h.not_gt]
    rw [hr]
    exact ⟨.inl rfl, Beats.refl _, .inl h⟩

/-- Dropping the experts' coordinate. -/
theorem drop_row (i : S4x2048x16.Idx) : reducesTo_S4x2048x16_S4x2048_d2.drop i = ix2 (i 0) (i 1) := by
  funext a
  match a with
  | ⟨0, _⟩ => exact Fin.ext (Shape.ReducesTo.drop_apply_val_of_eq _ i 0 0)
  | ⟨1, _⟩ => exact Fin.ext (Shape.ReducesTo.drop_apply_val_of_eq _ i 1 1)

/-- An index of a given row, by its expert. -/
theorem eq_of_row (i : S4x2048x16.Idx) (b : Fin 4) (n : Fin 2048) (h : (ix2 (i 0) (i 1) : S4x2048.Idx) = ix2 b n) : i = ix3 b n (i 2) := by
  have h0 : (i 0 : Fin 4) = b := congrFun h 0
  have h1 : (i 1 : Fin 2048) = n := congrFun h 1
  refine (eq_ix3 i).trans ?_
  subst h0 h1
  rfl

/-- The largest of a row of sixteen. -/
theorem largest_at (x : FVec Ideal S4x2048x16 .f32) (b : Fin 4) (n : Fin 2048) : largest x (ix2 b n) = rowMax fun e => x (ix3 b n e) := by
  pointwise [largest]
  rw [ofBits_bot]
  rfl

/-- The place of the largest of a row of sixteen. -/
theorem argMax_at (x : FVec Ideal S4x2048x16 .f32) (b : Fin 4) (n : Fin 2048) :
    chosen x (ix2 b n) = BitVec.ofNat 32 (top fun e => x (ix3 b n e)).val := by
  unfold chosen
  rw [Ideal.argReduce_eq_reduce2, Host.reduce2_eq_foldl_fiber]
  have hz : ((constant S_ .f32 0xFF800000#32 : FVec Ideal S_ .f32) (Shape.Idx.first h_S_), (constantI S_ 32 0#32) (Shape.Idx.first h_S_))
      = ((⊥ : EReal), 0#32) := Prod.ext ofBits_bot rfl
  rw [hz]
  refine foldl_eq_top (fun e => x (ix3 b n e)) _ reducer_beats _ fun p => ?_
  rw [Host.argReduceFiber, List.mem_map]
  constructor
  · rintro ⟨k, hk, rfl⟩
    have hk' := (List.mem_filter.1 hk).2
    generalize S4x2048x16.rowMajor.symm k = i at hk' ⊢
    rw [decide_eq_true_eq, drop_row] at hk'
    exact ⟨i 2, Prod.ext (congrArg x (eq_of_row i b n hk')) rfl⟩
  · rintro ⟨e, rfl⟩
    refine ⟨S4x2048x16.rowMajor (ix3 b n e), List.mem_filter.2 ⟨List.mem_finRange _, ?_⟩, ?_⟩
    · rw [decide_eq_true_eq, Equiv.symm_apply_apply, drop_row]; rfl
    · rw [Equiv.symm_apply_apply]; rfl

end Cert.ReferenceIdeal.Value

end
-- ==== Proof.RefGate.lean ====
/-
  THE REFERENCE'S GATE, read at an index: the probabilities, the two choices, and the slots.
-/
module

public import proofs.«01_k».proof.Proof.RefScan
public import proofs.«01_k».proof.Proof.GateBlock

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo TopTwo
open Cert.KernelIdeal.Gate (uitofp_bit cmpi_expert sitofp_ofNat)

variable (V : Valuation τ sig (Elt Ideal))

/-- The tokens and the gating weights. -/
abbrev tokens : Vec Ideal S4x2048x1024 .f32 := V (Proc.devRef .tc main_arg0)
abbrev gates : Vec Ideal S1024x16 .f32 := V (Proc.devRef .tc main_arg1)

/-- The gate probabilities of batch row `b`. -/
def row (b : Fin 4) : Fin 2048 → Fin 16 → EReal :=
  probs (fun n k => tokens V (ix3 b n k)) (fun k e => gates V (ix2 k e))

/-- The products of the tokens with the gating weights. -/
theorem logits_at (b : Fin 4) (n : Fin 2048) (e : Fin 16) :
    products V (ix3 b n e) = logit (fun n k => tokens V (ix3 b n k)) (fun k e => gates V (ix2 k e)) n e := by
  pointwise [products]
  rfl

/-- The largest product of a token. -/
theorem max_at (b : Fin 4) (n : Fin 2048) :
    peak V (ix2 b n) = rowMax (logit (fun n k => tokens V (ix3 b n k)) (fun k e => gates V (ix2 k e)) n) := by
  pointwise [peak]
  rw [largest_at, ofBits_bot, max_eq_right bot_le]
  simp only [logits_at]

/-- The probabilities. -/
theorem prob_at (b : Fin 4) (n : Fin 2048) (e : Fin 16) : softmaxed V (ix3 b n e) = row V b n e := by
  pointwise [softmaxed, raised]
  simp only [logits_at, max_at]
  rfl

/-- The first choice. -/
theorem first_at (b : Fin 4) (n : Fin 2048) : first V (ix2 b n) = BitVec.ofNat 32 (e1 (row V b) n).val := by
  refine (argMax_at (softmaxed V) b n).trans ?_
  simp only [prob_at]
  rfl

/-- The first choice's probability. -/
theorem g1_at (b : Fin 4) (n : Fin 2048) : firstGate V (ix2 b n) = g1 (row V b) n := by
  refine (largest_at (softmaxed V) b n).trans ?_
  simp only [prob_at]
  rfl

/-- A choice's mask, read at an expert. -/
theorem maskOf_at (i : IVec S4x2048 32) (b : Fin 4) (n : Fin 2048) (a e : Fin 16) (hi : i (ix2 b n) = BitVec.ofNat 32 a.val) :
    (maskOf i : FVec Ideal S4x2048x16 .f32) (ix3 b n e) = ind (a = e) := by
  pointwise [maskOf]
  rw [hi]
  exact uitofp_bit _ _ (cmpi_expert _ _)

/-- The first choices as a mask. -/
theorem mask1_at (b : Fin 4) (n : Fin 2048) (e : Fin 16) : firstMask V (ix3 b n e) = ind (e1 (row V b) n = e) :=
  maskOf_at (first V) b n _ e (first_at V b n)

/-- The probabilities with the first choice struck out. -/
theorem rest_at (b : Fin 4) (n : Fin 2048) (e : Fin 16) : struck V (ix3 b n e) = rest (row V b) n e := by
  pointwise [struck]
  rw [prob_at, mask1_at]
  unfold rest ind
  exact Ideal.mul_congr rfl (congrArg _ (if_congr eq_comm rfl rfl))

/-- The second choice. -/
theorem second_at (b : Fin 4) (n : Fin 2048) : second V (ix2 b n) = BitVec.ofNat 32 (e2 (row V b) n).val := by
  refine (argMax_at (struck V) b n).trans ?_
  simp only [rest_at]
  rfl

/-- The second choice's probability. -/
theorem g2_at (b : Fin 4) (n : Fin 2048) : secondGate V (ix2 b n) = g2 (row V b) n := by
  refine (largest_at (struck V) b n).trans ?_
  simp only [rest_at]
  rfl

/-- The second choices as a mask. -/
theorem mask2_at (b : Fin 4) (n : Fin 2048) (e : Fin 16) : secondMask V (ix3 b n e) = ind (e2 (row V b) n = e) :=
  maskOf_at (second V) b n _ e (second_at V b n)

/-- What the two probabilities are divided by. -/
theorem den_at (b : Fin 4) (n : Fin 2048) : divisor V (ix2 b n) = den (row V b) n := by
  pointwise [divisor]
  rw [g1_at, g2_at]
  rfl

/-- A running sum of a mask less the mask itself, at the chosen expert: the rank of the choice. -/
theorem scan_rank (s : Fin 2048 → Fin 16) (n : Fin 2048) (e : Fin 16) :
    (∑ k : Fin 2048, if k ≤ n then ind (s k = e) else 0) - ind (s n = e)
      = ((∑ k : Fin 2048, if k < n ∧ s k = e then 1 else 0 : ℕ) : EReal) := by
  have hs : (∑ k : Fin 2048, if k ≤ n then ind (s k = e) else 0)
      = (((∑ k : Fin 2048, if k < n ∧ s k = e then 1 else 0) + (if s n = e then 1 else 0) : ℕ) : EReal) := by
    have hk : ∀ k : Fin 2048, (if k ≤ n then ind (s k = e) else 0) = ind (k ≤ n ∧ s k = e) := fun k => by
      unfold ind; by_cases h1 : k ≤ n <;> by_cases h2 : s k = e <;> simp [h1, h2]
    rw [Finset.sum_congr rfl fun k _ => hk k, sum_ind]
    refine congrArg (fun k : ℕ => (k : EReal)) ?_
    have hn : (if s n = e then 1 else 0) = ∑ k : Fin 2048, if k = n then (if s k = e then 1 else 0) else 0 := by
      rw [Finset.sum_ite_eq' Finset.univ n]; simp
    rw [hn, ← Finset.sum_add_distrib]
    refine Finset.sum_congr rfl fun k _ => ?_
    rcases lt_trichotomy k n with h | h | h
    · simp [h, h.le, h.ne]
    · subst h; simp
    · simp [h.not_gt, h.not_ge, h.ne']
  rw [hs, ind_eq_cast, natural_sub _ _ (Nat.le_add_left _ _), Nat.add_sub_cancel]

/-- The bit of a slot's comparison with the capacity, in the choice's own column. -/
theorem kept_eq (p : Prop) [Decidable p] (k : ℕ) (d : BitVec 1)
    (hd : d = BitVec.ofBool (decide (((k : ℕ) : EReal) * ind p < ((160 : ℕ) : EReal)))) :
    ind p * (FloatOps.uitofp .f32 d : Ideal .f32) = ind (p ∧ k < 160) := by
  rw [uitofp_bit _ d hd, ind_mul_ind]
  unfold ind
  refine if_congr (and_congr_right fun hp => ?_) rfl rfl
  rw [if_pos hp, mul_one, natural_lt]

/-- Over the columns, the choice's own bit. -/
theorem sum_kept (a : Fin 16) (k : ℕ) : ∑ e : Fin 16, ind (a = e ∧ k < 160) = ind (k < 160) := by
  refine (Finset.sum_congr rfl fun e _ => ?_).trans (sum_mul_ind (fun _ => ind (k < 160)) a)
  rw [ind_mul_ind]
  unfold ind
  exact if_congr (by rw [and_comm]; exact and_congr_right fun _ => eq_comm) rfl rfl

/-- The running sum of the first choices. -/
theorem scan1_at (b : Fin 4) (n : Fin 2048) (e : Fin 16) :
    runningSum (firstMask V) (ix3 b n e) = ∑ k : Fin 2048, if k ≤ n then ind (e1 (row V b) k = e) else 0 := by
  refine (scan_at (firstMask V) b n e).trans ?_
  simp only [mask1_at]

/-- The slot at the first choice, in the column of that choice. -/
theorem slot1_at (b : Fin 4) (n : Fin 2048) (e : Fin 16) :
    firstSlot V (ix3 b n e) = ((pos1 (row V b) n : ℕ) : EReal) * ind (e1 (row V b) n = e) := by
  pointwise [firstSlot]
  rw [scan1_at, mask1_at, scan_rank]
  unfold ind pos1 rank
  split
  · next h => rw [h]
  · rw [mul_zero, mul_zero]

/-- A choice's mask within the capacity, where the choice is `a` and its slot `k`. -/
theorem within_at (m t : FVec Ideal S4x2048x16 .f32) (b : Fin 4) (n : Fin 2048) (a e : Fin 16) (k : ℕ)
    (hm : m (ix3 b n e) = ind (a = e)) (ht : t (ix3 b n e) = ((k : ℕ) : EReal) * ind (a = e)) :
    within m t (ix3 b n e) = ind (a = e ∧ k < 160) := by
  pointwise [within]
  rw [hm, ht, ofBits_160]
  exact kept_eq _ _ _ rfl

/-- Whether a token stays at its first choice, in that choice's column. -/
theorem kept1_at (b : Fin 4) (n : Fin 2048) (e : Fin 16) :
    firstKept V (ix3 b n e) = ind (e1 (row V b) n = e ∧ pos1 (row V b) n < 160) :=
  within_at (firstMask V) (firstSlot V) b n _ e _ (mask1_at V b n e) (slot1_at V b n e)

/-- Whether a token stays at its first choice. -/
theorem keep1_at (b : Fin 4) (n : Fin 2048) : firstStays V (ix2 b n) = ind (pos1 (row V b) n < 160) := by
  pointwise [firstStays]
  simp only [kept1_at]
  exact sum_kept _ _

/-- The slots the first choices take at an expert. -/
theorem taken_at (b : Fin 4) (n : Fin 2048) (e : Fin 16) :
    occupied V (ix3 b n e) = ((min (TopTwo.count (e1 (row V b)) e) 160 : ℕ) : EReal) := by
  pointwise [occupied]
  simp only [kept1_at]
  rw [sum_ind]
  exact congrArg (fun k : ℕ => (k : EReal)) (count_kept (e1 (row V b)) e 160)

/-- The running sum of the second choices. -/
theorem scan2_at (b : Fin 4) (n : Fin 2048) (e : Fin 16) :
    runningSum (secondMask V) (ix3 b n e) = ∑ k : Fin 2048, if k ≤ n then ind (e2 (row V b) k = e) else 0 := by
  refine (scan_at (secondMask V) b n e).trans ?_
  simp only [mask2_at]

/-- The slot at the second choice, in the column of that choice. -/
theorem slot2_at (b : Fin 4) (n : Fin 2048) (e : Fin 16) :
    secondSlot V (ix3 b n e) = ((pos2 (row V b) n : ℕ) : EReal) * ind (e2 (row V b) n = e) := by
  pointwise [secondSlot]
  rw [scan2_at, mask2_at, scan_rank, taken_at, ← Nat.cast_add]
  unfold ind pos2 rank
  split
  · next h => rw [h]
  · rw [mul_zero, mul_zero]

/-- Whether a token stays at its second choice. -/
theorem keep2_at (b : Fin 4) (n : Fin 2048) : secondStays V (ix2 b n) = ind (pos2 (row V b) n < 160) := by
  have hk : ∀ e : Fin 16, within (secondMask V) (secondSlot V) (ix3 b n e) = ind (e2 (row V b) n = e ∧ pos2 (row V b) n < 160) := fun e =>
    within_at (secondMask V) (secondSlot V) b n _ e _ (mask2_at V b n e) (slot2_at V b n e)
  pointwise [secondStays]
  simp only [hk]
  exact sum_kept _ _

end Cert.ReferenceIdeal.Value

end
-- ==== Proof.RefValue.lean ====
/-
  THE REFERENCE'S THREE RESULTS, over the extended reals: the model's dispatch and combine tensors and the loss.
-/
module

public import proofs.«01_k».proof.Proof.RefGate

@[expose] public section

set_option maxRecDepth 16384

noncomputable section

namespace TopTwo

open Idealize.ShloMosaic

/-- Truncating a small natural number to a word gives its word. -/
theorem fptosi_natural (k : ℕ) (h : k < 4096) : FloatOps.fptosi (F := Ideal) (φ := .f32) 32 ((k : ℕ) : EReal) = BitVec.ofNat 32 k := by
  show Ideal.fptosi 32 ((k : ℕ) : EReal) = _
  rw [← EReal.coe_natCast, Ideal.fptosi, Ideal.toIntClamped_coe, if_pos (Nat.cast_nonneg k), Int.floor_natCast]
  have : max (-((2 ^ (32 - 1) : ℕ) : ℤ)) (min (((2 ^ (32 - 1) : ℕ) : ℤ) - 1) (k : ℤ)) = (k : ℤ) := by
    norm_num; omega
  rw [this]
  exact BitVec.ofInt_natCast 32 k

/-- One choice's share of the combine tensor: the weight times the kept bit twice, at the choice's expert and slot. -/
theorem share_eq (w : EReal) (a e : Fin 16) (k : ℕ) (s : Fin 160) (hk : k < 4096) (d1 d2 : BitVec 1)
    (h1 : d1 = IntOp.cmpi .eq (BitVec.ofNat 32 a.val) (BitVec.ofNat 32 e.val))
    (h2 : d2 = IntOp.cmpi .eq (FloatOps.fptosi (F := Ideal) (φ := .f32) 32 (∑ x : Fin 16, ((k : ℕ) : EReal) * ind (a = x))) (BitVec.ofNat 32 s.val)) :
    w * ind (k < 160) * ind (k < 160) * (FloatOps.uitofp .f32 d1 : Ideal .f32) * (FloatOps.uitofp .f32 d2 : Ideal .f32)
      = if e = a ∧ s.val = k then w else 0 := by
  have hs : ∑ x : Fin 16, ((k : ℕ) : EReal) * ind (a = x) = ((k : ℕ) : EReal) :=
    (Finset.sum_congr rfl fun x _ => by unfold ind; exact Ideal.mul_congr rfl (if_congr eq_comm rfl rfl)).trans
      (sum_mul_ind (fun _ => ((k : ℕ) : EReal)) a)
  have hb : d2 = BitVec.ofBool (decide (k = s.val)) := by
    rw [h2, hs, fptosi_natural k hk]
    show BitVec.ofBool (BitVec.ofNat 32 k == BitVec.ofNat 32 s.val) = _
    rw [show (BitVec.ofNat 32 k == BitVec.ofNat 32 s.val) = decide (k = s.val) from by
      rw [Bool.eq_iff_iff]; simp only [beq_iff_eq, decide_eq_true_eq]; exact ofNat_inj _ _ hk (by omega)]
  rw [Cert.KernelIdeal.Gate.uitofp_bit (a = e) d1 (h1.trans (Cert.KernelIdeal.Gate.cmpi_expert a e)), Cert.KernelIdeal.Gate.uitofp_bit (k = s.val) d2 hb]
  unfold ind
  by_cases ha : e = a
  · by_cases hks : s.val = k
    · have hk' : k < 160 := by omega
      simp [ha, hks, hk']
    · have hks' : ¬ k = s.val := fun h => hks h.symm
      simp [hks, hks']
  · have ha' : ¬ a = e := fun h => ha h.symm
    simp [ha, ha']

/-- A sum of products with one nonnegative real. -/
theorem sum_mul_real {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The patterns of 2048, 64, 256 and 2⁻²⁰. -/
theorem ofBits_2048 : Ideal.ofBits .f32 0x45000000#32 = ((2048 : ℝ) : EReal) := by
  simp [Ideal.ofBits, Ideal.ieee]; rw [← EReal.coe_mul]; norm_num
theorem ofBits_64 : Ideal.ofBits .f32 0x42800000#32 = ((64 : ℝ) : EReal) := by
  simp [Ideal.ofBits, Ideal.ieee]; rw [← EReal.coe_mul]; norm_num
theorem ofBits_256 : Ideal.ofBits .f32 0x43800000#32 = ((256 : ℝ) : EReal) := by
  simp [Ideal.ofBits, Ideal.ieee]; rw [← EReal.coe_mul]; norm_num
theorem ofBits_scale : Ideal.ofBits .f32 0x35800000#32 = ((1 / 1048576 : ℝ) : EReal) := by
  simp [Ideal.ofBits, Ideal.ieee]; rw [← EReal.coe_mul]; norm_num

/-- The mean over batch rows and experts of the two per-expert means' product, times 256, is the sum of the batch rows' parts
    times 2⁻²⁰: 256 / (64 · 2048 · 2048) = 2⁻²⁰. -/
theorem loss_eq (P : Fin 4 → Fin 2048 → Fin 16 → EReal) :
    Ideal.div (∑ b : Fin 4, ∑ e : Fin 16, Ideal.div (∑ n : Fin 2048, P b n e) (Ideal.ofBits .f32 0x45000000#32)
        * Ideal.div (∑ n : Fin 2048, ind (e1 (P b) n = e)) (Ideal.ofBits .f32 0x45000000#32)) (Ideal.ofBits .f32 0x42800000#32)
      * Ideal.ofBits .f32 0x43800000#32
    = ∑ b : Fin 4, lossPart (P b) * Ideal.ofBits .f32 0x35800000#32 := by
  rw [ofBits_2048, ofBits_64, ofBits_256, ofBits_scale, sum_mul_real _ _ _ (by norm_num), Ideal.div_coe (by norm_num), mul_assoc, ← EReal.coe_mul]
  have hb : ∀ b : Fin 4, (∑ e : Fin 16, Ideal.div (∑ n : Fin 2048, P b n e) ((2048 : ℝ) : EReal)
      * Ideal.div (∑ n : Fin 2048, ind (e1 (P b) n = e)) ((2048 : ℝ) : EReal)) = lossPart (P b) * ((1 / 2048 * (1 / 2048) : ℝ) : EReal) := fun b => by
    unfold lossPart
    rw [← sum_mul_real _ _ _ (by norm_num)]
    refine Finset.sum_congr rfl fun e _ => ?_
    rw [Ideal.div_coe (by norm_num), Ideal.div_coe (by norm_num), sum_ind, EReal.coe_mul, mul_mul_mul_comm, mul_comm (∑ n : Fin 2048, P b n e)]
    rfl
  rw [Finset.sum_congr rfl fun b _ => hb b, sum_mul_real _ _ _ (by norm_num), mul_assoc, ← EReal.coe_mul]
  norm_num

end TopTwo

namespace Cert.ReferenceIdeal.Value

open Cert.ReferenceIdeal Cert.ReferenceIdeal.Gen Idealize.ShloMosaic Idealize.ShloMosaic.TcCoe Idealize.SL.Sem
open Idealize.ShloMosaic.StableHlo TopTwo
open Cert.KernelIdeal.Gate (uitofp_bit)

variable (V : Valuation τ sig (Elt Ideal))

/-- A choice's share, read at an index: the weight at the choice's expert and slot while the slot is within the capacity. -/
theorem share_at (g d k : FVec Ideal S4x2048 .f32) (i : IVec S4x2048 32) (t : FVec Ideal S4x2048x16 .f32) (b : Fin 4) (n : Fin 2048)
    (e : Fin 16) (s : Fin 160) (a : Fin 16) (p : ℕ) (hp : p < 4096) (hi : i (ix2 b n) = BitVec.ofNat 32 a.val)
    (hk : k (ix2 b n) = ind (p < 160)) (ht : ∀ x : Fin 16, t (ix3 b n x) = ((p : ℕ) : EReal) * ind (a = x)) :
    share g d k i t (ix4 b n e s) = if e = a ∧ s.val = p then Ideal.div (g (ix2 b n)) (d (ix2 b n)) else 0 := by
  pointwise [share, maskOf, slotMask]
  simp only [hi, hk, ht]
  exact share_eq _ a e p s hp _ _ rfl rfl

/-- The first choice's share. -/
theorem part1_at (b : Fin 4) (n : Fin 2048) (e : Fin 16) (s : Fin 160) :
    firstShare V (ix4 b n e s) = if e = e1 (row V b) n ∧ s.val = pos1 (row V b) n then w1 (row V b) n else 0 := by
  have hp := pos1_lt (row V b) n
  refine (share_at (firstGate V) (divisor V) (firstStays V) (first V) (firstSlot V) b n e s _ _ (by omega) (first_at V b n)
    (keep1_at V b n) (slot1_at V b n)).trans ?_
  rw [g1_at, den_at]
  rfl

/-- The second choice's share. -/
theorem part2_at (b : Fin 4) (n : Fin 2048) (e : Fin 16) (s : Fin 160) :
    secondShare V (ix4 b n e s) = if e = e2 (row V b) n ∧ s.val = pos2 (row V b) n then w2 (row V b) n else 0 := by
  refine (share_at (secondGate V) (divisor V) (secondStays V) (second V) (secondSlot V) b n e s _ _ (pos2_lt (row V b) n) (second_at V b n)
    (keep2_at V b n) (slot2_at V b n)).trans ?_
  rw [g2_at, den_at]
  rfl

/-- The reference's combine tensor. -/
theorem combine_value (b : Fin 4) (n : Fin 2048) (e : Fin 16) (s : Fin 160) : combined V (ix4 b n e s) = combine (row V b) n e s := by
  pointwise [combined]
  rw [part1_at, part2_at]
  rfl

/-- The reference's dispatch tensor. -/
theorem dispatch_value (b : Fin 4) (n : Fin 2048) (e : Fin 16) (s : Fin 160) : dispatched V (ix4 b n e s) = dispatch (row V b) n e s := by
  pointwise [dispatched]
  rw [combine_value]
  exact uitofp_bit _ _ rfl

/-- The reference's loss. -/
theorem loss_value : balance V = fun _ => ∑ b : Fin 4, lossPart (row V b) * Ideal.ofBits .f32 0x35800000#32 := by
  funext j
  pointwise [balance, tokenMean]
  simp only [prob_at, mask1_at]
  exact loss_eq (row V)

end Cert.ReferenceIdeal.Value

end
-- ==== Proof.Equation.lean ====
/-
  THE EQUATION: from arguments that agree, the kernel's three results and the reference's are the same arrays, since both are
  the model's tensors of the same gate probabilities.
-/
module

public import proofs.«01_k».proof.Proof.KernelValue
public import proofs.«01_k».proof.Proof.RefValue
public import proofs.«01_k».proof.Proof.RefRun

@[expose] public section

set_option maxRecDepth 16384

noncomputable section

namespace Cert.Equation

open Idealize.ShloMosaic Idealize.ShloMosaic.TcCoe Idealize.SL.Sem Idealize.ShloMosaic.StableHlo TopTwo
open Cert.ReferenceIdeal.Value (combined dispatched balance)

/-- Two arrays over batch rows, tokens, experts and slots are equal when they agree at every quadruple. -/
theorem ext4 {f g : FVec Ideal Cert.KernelIdeal.S4x2048x16x160 .f32}
    (h : ∀ (b : Fin 4) (n : Fin 2048) (e : Fin 16) (s : Fin 160), f (ix4 b n e s) = g (ix4 b n e s)) : f = g := by
  funext j
  rw [eq_ix4 j]
  exact h _ _ _ _

section

variable (m : (ℓ : Loc Cert.KernelIdeal.nD Cert.KernelIdeal.τ Cert.KernelIdeal.sig) → Buf (Elt Ideal) ℓ)
variable (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)
variable (h0 : m' ((c.tc : Thread Cert.ReferenceIdeal.nD Cert.ReferenceIdeal.τ).loc Cert.ReferenceIdeal.main_arg0)
  = m ((c.tc : Thread Cert.KernelIdeal.nD Cert.KernelIdeal.τ).loc Cert.KernelIdeal.main_arg0))
variable (h1 : m' ((c.tc : Thread Cert.ReferenceIdeal.nD Cert.ReferenceIdeal.τ).loc Cert.ReferenceIdeal.main_arg1)
  = m ((c.tc : Thread Cert.KernelIdeal.nD Cert.KernelIdeal.τ).loc Cert.KernelIdeal.main_arg1))

include h0 h1

/-- The two programs' gate probabilities of a batch row are the same. -/
theorem row_eq (b : Fin 4) : Cert.ReferenceIdeal.Value.row (launchContents m' c) b = Cert.KernelIdeal.Whole.row m c b := by
  show probs (fun n k => (m' ((c.tc : Thread Cert.ReferenceIdeal.nD Cert.ReferenceIdeal.τ).loc Cert.ReferenceIdeal.main_arg0) : FVec Ideal Cert.KernelIdeal.S4x2048x1024 .f32) (ix3 b n k))
    (fun k e => (m' ((c.tc : Thread Cert.ReferenceIdeal.nD Cert.ReferenceIdeal.τ).loc Cert.ReferenceIdeal.main_arg1) : FVec Ideal Cert.KernelIdeal.S1024x16 .f32) (ix2 k e)) = _
  rw [h0, h1]
  rfl

/-- The dispatch tensors are equal. -/
theorem dispatch_eq : dispatched (launchContents m' c)
    = Cert.KernelIdeal.Gen.W4 m ρ c (Proc.devRef .tc Cert.KernelIdeal.main_v0_0) :=
  ext4 fun b n e s => (Cert.ReferenceIdeal.Value.dispatch_value _ b n e s).trans
    ((congrArg (fun P => dispatch P n e s) (row_eq m m' c h0 h1 b)).trans (Cert.KernelIdeal.Whole.dispatch_value m ρ c b n e s).symm)

/-- The combine tensors are equal. -/
theorem combine_eq : combined (launchContents m' c)
    = Cert.KernelIdeal.Gen.W4 m ρ c (Proc.devRef .tc Cert.KernelIdeal.main_v0_1) :=
  ext4 fun b n e s => (Cert.ReferenceIdeal.Value.combine_value _ b n e s).trans
    ((congrArg (fun P => combine P n e s) (row_eq m m' c h0 h1 b)).trans (Cert.KernelIdeal.Whole.combine_value m ρ c b n e s).symm)

/-- The losses are equal. -/
theorem loss_eq : balance (launchContents m' c)
    = Cert.KernelIdeal.Gen.W4 m ρ c (Proc.devRef .tc Cert.KernelIdeal.main_v0_2) := by
  refine (Cert.ReferenceIdeal.Value.loss_value _).trans (Eq.trans ?_ (Cert.KernelIdeal.Whole.loss_value m ρ c).symm)
  funext j
  exact Finset.sum_congr rfl fun b _ => by rw [row_eq m m' c h0 h1 b]

end

end Cert.Equation

end
-- ==== Proof.lean ====
/-
  THE CLAIM: every program runs, leaves its arguments unchanged and its semaphores at zero; the idealized kernel is the
  kernel's own text; and over the extended reals the kernel's three results are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.KernelRun
public import proofs.«01_k».proof.Proof.Equation
public import Idealize.ShloMosaic.Lib.Claim
public import Idealize.ShloMosaic.Lib.Quiescent

@[expose] public section

noncomputable section

namespace Cert.Proof

open Idealize.ShloMosaic Idealize.SL.Sem

/-- The reference runs, with its arguments unchanged; it has no semaphores. -/
theorem reference_frame : @Cert.quiescent_ReferenceIdeal Cert.ReferenceIdeal.Gen.facts := fun m ρ _ =>
  (θ_run _ _ _).mono (fun r h => ⟨fun c => ⟨(h c).2.2.2.1, (h c).2.2.2.2⟩, sem_eq_zero_of_no_sems (by decide) r.2⟩)
    (Cert.ReferenceIdeal.Value.run m ρ)

/-- From memories that agree on the arguments, the kernel and the reference both run and end with the same dispatch tensor,
    the same combine tensor and the same loss. -/
theorem same_results : @Cert.algebraic_KernelIdeal_ReferenceIdeal Cert.KernelIdeal.Gen.facts Cert.ReferenceIdeal.Gen.facts :=
  fun m ρ m' ρ' _ hagree =>
    ⟨_, _, _, Cert.KernelIdeal.Whole.run m ρ,
     (θ_run _ _ _).mono (fun _ h c =>
        ⟨(h c).1.trans (Cert.Equation.dispatch_eq m ρ m' c (hagree c).1 (hagree c).2),
         (h c).2.1.trans (Cert.Equation.combine_eq m ρ m' c (hagree c).1 (hagree c).2),
         (h c).2.2.1.trans (Cert.Equation.loss_eq m ρ m' c (hagree c).1 (hagree c).2),
         (h c).2.2.2.1, (h c).2.2.2.2⟩)
      (Cert.ReferenceIdeal.Value.run m' ρ')⟩

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
